-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S256x256 : Shape := ⟨2, ![256, 256]⟩
abbrev S_ : Shape := ⟨0, ![]⟩

class Facts : Prop where
  bcast_S_S512x256 : S_.BroadcastsInDim S512x256 (![] : Fin 0 → Fin S512x256.rank)
  bcast_S_S256x256 : S_.BroadcastsInDim S256x256 (![] : Fin 0 → Fin S256x256.rank)

variable [Facts]

def fn {F : FTy → Type} [FloatOps F] (main_arg0 : FVec F S512x256 .f32) (main_arg1 : FVec F S256x256 .f32) : IVec S512x256 1 × IVec S256x256 1 :=
  let main_cst : FVec F S_ .f32 := constant S_ .f32 0xFF800000#32
  let main_v0 : FVec F S512x256 .f32 := broadcastInDim S512x256 ![] bcast_S_S512x256 main_cst
  let main_v1 : IVec S512x256 1 := cmpf .ogt main_arg0 main_v0
  let main_cst_0 : FVec F S_ .f32 := constant S_ .f32 0x7F800000#32
  let main_v2 : FVec F S512x256 .f32 := broadcastInDim S512x256 ![] bcast_S_S512x256 main_cst_0
  let main_v3 : IVec S512x256 1 := cmpf .olt main_arg0 main_v2
  let main_v4 : IVec S512x256 1 := andi main_v1 main_v3
  let main_cst_1 : FVec F S_ .f32 := constant S_ .f32 0xFF800000#32
  let main_v5 : FVec F S256x256 .f32 := broadcastInDim S256x256 ![] bcast_S_S256x256 main_cst_1
  let main_v6 : IVec S256x256 1 := cmpf .ogt main_arg1 main_v5
  let main_cst_2 : FVec F S_ .f32 := constant S_ .f32 0x7F800000#32
  let main_v7 : FVec F S256x256 .f32 := broadcastInDim S256x256 ![] bcast_S_S256x256 main_cst_2
  let main_v8 : IVec S256x256 1 := cmpf .olt main_arg1 main_v7
  let main_v9 : IVec S256x256 1 := andi main_v6 main_v8
  (main_v4, main_v9)
-- ==== Pre_finite_ReferenceIdeal.lean ====
abbrev S2048x256 : Shape := ⟨2, ![2048, 256]⟩
abbrev S256x256 : Shape := ⟨2, ![256, 256]⟩
abbrev S_ : Shape := ⟨0, ![]⟩

class Facts : Prop where
  bcast_S_S2048x256 : S_.BroadcastsInDim S2048x256 (![] : Fin 0 → Fin S2048x256.rank)
  bcast_S_S256x256 : S_.BroadcastsInDim S256x256 (![] : Fin 0 → Fin S256x256.rank)

variable [Facts]

def fn {F : FTy → Type} [FloatOps F] (main_arg0 : FVec F S2048x256 .f32) (main_arg1 : FVec F S256x256 .f32) : IVec S2048x256 1 × IVec S256x256 1 :=
  let main_cst : FVec F S_ .f32 := constant S_ .f32 0xFF800000#32
  let main_v0 : FVec F S2048x256 .f32 := broadcastInDim S2048x256 ![] bcast_S_S2048x256 main_cst
  let main_v1 : IVec S2048x256 1 := cmpf .ogt main_arg0 main_v0
  let main_cst_0 : FVec F S_ .f32 := constant S_ .f32 0x7F800000#32
  let main_v2 : FVec F S2048x256 .f32 := broadcastInDim S2048x256 ![] bcast_S_S2048x256 main_cst_0
  let main_v3 : IVec S2048x256 1 := cmpf .olt main_arg0 main_v2
  let main_v4 : IVec S2048x256 1 := andi main_v1 main_v3
  let main_cst_1 : FVec F S_ .f32 := constant S_ .f32 0xFF800000#32
  let main_v5 : FVec F S256x256 .f32 := broadcastInDim S256x256 ![] bcast_S_S256x256 main_cst_1
  let main_v6 : IVec S256x256 1 := cmpf .ogt main_arg1 main_v5
  let main_cst_2 : FVec F S_ .f32 := constant S_ .f32 0x7F800000#32
  let main_v7 : FVec F S256x256 .f32 := broadcastInDim S256x256 ![] bcast_S_S256x256 main_cst_2
  let main_v8 : IVec S256x256 1 := cmpf .olt main_arg1 main_v7
  let main_v9 : IVec S256x256 1 := andi main_v6 main_v8
  (main_v4, main_v9)
-- ==== Kernel.lean ====
abbrev S512x256 : Shape := ⟨2, ![512, 256]⟩
abbrev S256x256 : Shape := ⟨2, ![256, 256]⟩
abbrev S2x2x128x256 : Shape := ⟨4, ![2, 2, 128, 256]⟩
abbrev S2x2 : Shape := ⟨2, ![2, 2]⟩
abbrev S_ : Shape := ⟨0, ![]⟩
abbrev S128x256 : Shape := ⟨2, ![128, 256]⟩
abbrev S1x1x128x256 : Shape := ⟨4, ![1, 1, 128, 256]⟩
abbrev S1x1 : Shape := ⟨2, ![1, 1]⟩

abbrev nBuf : Space → Nat
  | .hbm => 3
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S512x256, .f32⟩
  | .local _ .vmem, ⟨0, _⟩ => ⟨S512x256, .f32⟩
  | .local _ .vmem, ⟨1, _⟩ => ⟨S256x256, .f32⟩
  | .local _ .vmem, ⟨2, _⟩ => ⟨S512x256, .f32⟩
  | .local _ .vmem, ⟨3, _⟩ => ⟨S256x256, .bf16⟩
  | .local _ .vmem, ⟨4, _⟩ => ⟨S2x2x128x256, .bf16⟩
  | .local _ .vmem, ⟨5, _⟩ => ⟨S2x2x128x256, .bf16⟩
  | .local _ .vmem, ⟨6, _⟩ => ⟨S2x2x128x256, .bf16⟩
  | .local _ .vmem, ⟨7, _⟩ => ⟨S2x2x128x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_32 : BitVec 32 := 1#32
  let v34 : BitVec 32 := Scalar.muli v3 c1_i32_32
  let v35 : BitVec 32 := Scalar.addi c0_i32_33 v34
  v35.toNat
def k0_dev4 (d0 : Dev nD) : Nat :=
  let c0_i32_47 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_46 : BitVec 32 := 1#32
  let v44 : BitVec 32 := Scalar.muli v4 c1_i32_46
  let v45 : BitVec 32 := Scalar.addi c0_i32_47 v44
  v45.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_68 : BitVec 32 := 1#32
  let v63 : BitVec 32 := Scalar.muli v3 c1_i32_68
  let v64 : BitVec 32 := Scalar.addi c0_i32_69 v63
  v64.toNat
def k0_dev6 (d0 : Dev nD) : Nat :=
  let c0_i32_91 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_90 : BitVec 32 := 1#32
  let v82 : BitVec 32 := Scalar.muli v4 c1_i32_90
  let v83 : BitVec 32 := Scalar.addi c0_i32_91 v82
  v83.toNat
def k0_dev7 (d0 : Dev nD) : Nat :=
  let c0_i32_131 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_130 : BitVec 32 := 1#32
  let v111 : BitVec 32 := Scalar.muli v4 c1_i32_130
  let v112 : BitVec 32 := Scalar.addi c0_i32_131 v111
  v112.toNat
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_170 : BitVec 32 := 1#32
  let v140 : BitVec 32 := Scalar.muli v3 c1_i32_170
  let v141 : BitVec 32 := Scalar.addi c0_i32_171 v140
  v141.toNat
def k0_dev9 (d0 : Dev nD) : Nat :=
  let c0_i32_211 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_210 : BitVec 32 := 1#32
  let v169 : BitVec 32 := Scalar.muli v4 c1_i32_210
  let v170 : BitVec 32 := Scalar.addi c0_i32_211 v169
  v170.toNat
def k0_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_250 : BitVec 32 := 1#32
  let v198 : BitVec 32 := Scalar.muli v3 c1_i32_250
  let v199 : BitVec 32 := Scalar.addi c0_i32_251 v198
  v199.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x256 : Shape := ⟨2, ![2048, 256]⟩
abbrev S256x256 : Shape := ⟨2, ![256, 256]⟩
abbrev S4x512x256 : Shape := ⟨3, ![4, 512, 256]⟩
abbrev S_ : Shape := ⟨0, ![]⟩
abbrev S512x256 : Shape := ⟨2, ![512, 256]⟩

abbrev nBuf : Space → Nat
  | .hbm => 6
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256, .f32⟩
  | .hbm, ⟨2, _⟩ => ⟨S4x512x256, .f32⟩
  | .hbm, ⟨3, _⟩ => ⟨S_, .f32⟩
  | .hbm, ⟨4, _⟩ => ⟨S512x256, .f32⟩
  | .hbm, ⟨5, _⟩ => ⟨S512x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KIProto.lean ====
/-
# The exchange protocol of the kernel

Four devices add their partial products in two exchanges. A block is cut in four chunks of 128 rows. In phase `0`
chunk `x` of device `c` goes to `pr 0 x c`, in phase `1` the sum of the two goes to `pr 1 x c`; the first two chunks
take the partners in one order, the last two in the other. A device tells both partners through the barrier
semaphore that its landing buffers are free; every transfer has a send and a receive semaphore of its own.

This module fixes the semaphore cells, what every chunk holds, the schedule of the cells (which device pays which
cell, how much, with what), what a device owes at the start and the order in which it may wait.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by a `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The partners -/

set_option backward.proofsInPublic true in
/-- The partner whose number differs in the last bit. -/
def pe (c : Dev nD) : Dev nD := ⟨c.val ^^^ 1, by revert c; decide⟩
set_option backward.proofsInPublic true in
/-- The partner whose number differs in both bits. -/
def pf (c : Dev nD) : Dev nD := ⟨3 - c.val, by revert c; decide⟩

/-- The partner by name: `false` the first, `true` the second. -/
def pb (b : Bool) (c : Dev nD) : Dev nD := match b with | false => pe c | true => pf c

/-- Which partner chunk `x` goes to in phase `p`. -/
def rt (p : Fin 2) (x : Fin 4) : Bool := match p, x with
  | 0, 0 => false | 0, 1 => false | 0, 2 => true | 0, 3 => true
  | 1, 0 => true | 1, 1 => true | 1, 2 => false | 1, 3 => false
/-- The device chunk `x` of device `c` goes to in phase `p`. -/
def pr (p : Fin 2) (x : Fin 4) (c : Dev nD) : Dev nD := pb (rt p x) c

theorem pb_pb (b : Bool) (c : Dev nD) : pb b (pb b c) = c := by revert b c; decide
theorem pr_pr (p : Fin 2) (x : Fin 4) (c : Dev nD) : pr p x (pr p x c) = c := pb_pb _ _

theorem dev1_eq (c : Dev nD) : (⟨k0_dev1 c, k0_dev1_lt c⟩ : Dev nD) = pb false c := by revert c; decide +kernel
theorem dev2_eq (c : Dev nD) : (⟨k0_dev2 c, k0_dev2_lt c⟩ : Dev nD) = pb true c := by revert c; decide +kernel
theorem dev3_eq (c : Dev nD) : (⟨k0_dev3 c, k0_dev3_lt c⟩ : Dev nD) = pr 0 0 c := by revert c; decide +kernel
theorem dev4_eq (c : Dev nD) : (⟨k0_dev4 c, k0_dev4_lt c⟩ : Dev nD) = pr 0 2 c := by revert c; decide +kernel
theorem dev5_eq (c : Dev nD) : (⟨k0_dev5 c, k0_dev5_lt c⟩ : Dev nD) = pr 0 1 c := by revert c; decide +kernel
theorem dev6_eq (c : Dev nD) : (⟨k0_dev6 c, k0_dev6_lt c⟩ : Dev nD) = pr 0 3 c := by revert c; decide +kernel
theorem dev7_eq (c : Dev nD) : (⟨k0_dev7 c, k0_dev7_lt c⟩ : Dev nD) = pr 1 0 c := by revert c; decide +kernel
theorem dev8_eq (c : Dev nD) : (⟨k0_dev8 c, k0_dev8_lt c⟩ : Dev nD) = pr 1 2 c := by revert c; decide +kernel
theorem dev9_eq (c : Dev nD) : (⟨k0_dev9 c, k0_dev9_lt c⟩ : Dev nD) = pr 1 1 c := by revert c; decide +kernel
theorem dev10_eq (c : Dev nD) : (⟨k0_dev10 c, k0_dev10_lt c⟩ : Dev nD) = pr 1 3 c := by revert c; decide +kernel

/-- A partner map as a permutation of the devices. -/
def pbE (b : Bool) : Dev nD ≃ Dev nD := ⟨pb b, pb b, pb_pb b, pb_pb b⟩

/-! ## The buffers and the chunks -/

abbrev BM : Type := Memref sig .tc .vmem S2x2x128x256 .bf16

abbrev tM : Memref sig .tc .vmem S512x256 .f32 := Memref.whole cc0_stg0_0
abbrev wM : Memref sig .tc .vmem S256x256 .f32 := Memref.whole cc0_stg1_0
abbrev oM : Memref sig .tc .vmem S512x256 .f32 := Memref.whole cc0_stg2_0
abbrev wbM : Memref sig .tc .vmem S256x256 .bf16 := Memref.whole cc0_scratch0
/-- The buffer phase `p` sends from. -/
abbrev sM (p : Fin 2) : BM := match p with | 0 => Memref.whole cc0_scratch1 | 1 => Memref.whole cc0_scratch3
/-- The buffer phase `p` lands in. -/
abbrev rM (p : Fin 2) : BM := match p with | 0 => Memref.whole cc0_scratch2 | 1 => Memref.whole cc0_scratch4

/-- Where chunk `x` begins in a buffer of four chunks. -/
abbrev offs (x : Fin 4) : Fin 4 → ℕ := match x with
  | 0 => ![0, 0, 0, 0] | 1 => ![0, 1, 0, 0] | 2 => ![1, 0, 0, 0] | 3 => ![1, 1, 0, 0]
theorem offs_inb (x : Fin 4) : ∀ a : Fin 4, offs x a + S1x1x128x256.size a ≤ S2x2x128x256.size a := by revert x; decide
abbrev rx (x : Fin 4) : Rect S2x2x128x256 := Rect.unit (s := S2x2x128x256) (offs x) S1x1x128x256.size (offs_inb x)
/-- Chunk `x` of the buffer `M`, as the transfers name it. -/
abbrev chM (M : BM) (x : Fin 4) : Memref sig .tc .vmem S128x256 .bf16 :=
  (M.slice (rx x) (fun _ => rfl)).squeeze S128x256 squeezes_S1x1x128x256_S128x256

/-! ## The semaphore cells -/

abbrev barS : Sem sig := (SemArray.scalar (sig.barrier 0 rfl) : Sems sig S_).sem
set_option backward.proofsInPublic true in
/-- The semaphore of chunk `x` in phase `p`: side `0` the sender's, side `1` the receiver's. -/
abbrev xsem (p sd : Fin 2) (x : Fin 4) : DmaSem sig := (⟨3 + 8 * p.val + 4 * sd.val + x.val, by revert p sd x; decide⟩ : Fin 19)

/-- A cell's name within a device: the barrier, or phase, side and chunk. -/
abbrev CN : Type := Option (Fin 2 × Fin 2 × Fin 4)
abbrev csem : CN → SemLoc sig := fun | none => .reg barS | some (p, sd, x) => .dma (xsem p sd x)
abbrev kcell (ck : Dev nD × CN) : GSem nD τ sig := ((ck.1 : Thread nD τ), csem ck.2)
abbrev barCell (c : Dev nD) : GSem nD τ sig := ((c : Thread nD τ), .reg barS)
abbrev xcell (c : Dev nD) (p sd : Fin 2) (x : Fin 4) : GSem nD τ sig := ((c : Thread nD τ), .dma (xsem p sd x))

/-- A transfer's semaphore read back as phase, side and chunk. -/
def dec (q : DmaSem sig) : Fin 2 × Fin 2 × Fin 4 :=
  (⟨(q.val - 3) / 8 % 2, Nat.mod_lt _ (by decide)⟩, ⟨(q.val - 3) / 4 % 2, Nat.mod_lt _ (by decide)⟩, ⟨(q.val - 3) % 4, Nat.mod_lt _ (by decide)⟩)
theorem dec_xsem (p sd : Fin 2) (x : Fin 4) : dec (xsem p sd x) = (p, sd, x) := by revert p sd x; decide
theorem xsem_ge (p sd : Fin 2) (x : Fin 4) : 3 ≤ (xsem p sd x).val := by revert p sd x; decide
theorem csem_injective : Function.Injective csem := by decide

theorem kcell_injective : Function.Injective (kcell : Dev nD × CN → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The units a transfer adds to its semaphores. -/
abbrev N : ℕ := (chM (rM 0) 0).view.dmaCredit
theorem N_pos : 0 < N := View.dmaCredit_pos _ (by decide)
theorem credit_r (p : Fin 2) (x : Fin 4) : (chM (rM p) x).view.dmaCredit = N := by
  fin_cases p <;> fin_cases x <;> rfl
theorem credit_s (p : Fin 2) (x : Fin 4) : (chM (sM p) x).view.dmaCredit = N := by
  fin_cases p <;> fin_cases x <;> rfl

/-! ## What the buffers hold -/

/-- The device's block of `t` and its `W`, as the launch stages them. -/
def tstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The rows of chunk `x` in a block. -/
abbrev roffs (x : Fin 4) : Fin 2 → ℕ := match x with
  | 0 => ![0, 0] | 1 => ![128, 0] | 2 => ![256, 0] | 3 => ![384, 0]
theorem roffs_inb (x : Fin 4) : ∀ a : Fin 2, roffs x a + S128x256.size a ≤ S512x256.size a := by revert x; decide
abbrev rr (x : Fin 4) : Rect S512x256 := Rect.unit (s := S512x256) (roffs x) S128x256.size (roffs_inb x)
/-- The rows of chunk `x` of the device's block of `t`. -/
def trow (c : Dev nD) (x : Fin 4) : Vec F S128x256 .f32 :=
  (tM : Memref sig .tc .vmem S512x256 .f32).view.readAt (Elt F) (rr x).toLoadRect (tstg m ρ c)
/-- The device's `W`, rounded. -/
def wbv (c : Dev nD) : Vec F S256x256 .bf16 := k0_pay1 (wstg m ρ c)
/-- The device's own product, chunk `x`. -/
def A1 (c : Dev nD) (x : Fin 4) : Vec F S1x1x128x256 .bf16 := k0_pay2 (trow m ρ c x) (wbv m ρ c)
/-- The sum of its product and its first partner's, chunk `x`. -/
def A2 (c : Dev nD) (x : Fin 4) : Vec F S1x1x128x256 .bf16 := k0_pay8 (A1 m ρ c x) (A1 m ρ (pr 0 x c) x)
/-- The rows of chunk `x` of the result. -/
def A3 (c : Dev nD) (x : Fin 4) : Vec F S128x256 .f32 := k0_pay12 (A2 m ρ c x) (A2 m ρ (pr 1 x c) x)
/-- What device `c` sends of chunk `x` in phase `p`. -/
def Av (p : Fin 2) (c : Dev nD) (x : Fin 4) : Vec F S1x1x128x256 .bf16 := match p with | 0 => A1 m ρ c x | 1 => A2 m ρ c x

/-- Chunk `x` of the buffer `M` of device `c`, held at share `q` and reading `w`. -/
def ch (c : Dev nD) (M : BM) (x : Fin 4) (q : PosShare TreeShare) (w : Vec F S1x1x128x256 .bf16) : sProp 𝕄 :=
  iprop(∃ f : Buf (Elt F) ((chM M x).view.loc (c : Thread nD τ)), ⌜(M.access (rx x)).read (Elt F) f = w⌝
    ∗ ((chM M x).view.loc (c : Thread nD τ) ↦[(chM M x).view.set]{q} f))
/-- Chunk `x` of the buffer `M` of device `c`, holding anything. -/
def chAny (c : Dev nD) (M : BM) (x : Fin 4) : sProp 𝕄 :=
  iprop(∃ f : Buf (Elt F) ((chM M x).view.loc (c : Thread nD τ)), ((chM M x).view.loc (c : Thread nD τ) ↦[(chM M x).view.set]{fullShare} f))

omit [FloatOps F] in
instance ch_storable (c : Dev nD) (M : BM) (x : Fin 4) (q) (w) : BI.Storable (upEmb : UEmb _ 𝕄) (ch (F := F) c M x q w) := by
  unfold ch; infer_instance
omit [FloatOps F] in
instance chAny_storable (c : Dev nD) (M : BM) (x : Fin 4) : BI.Storable (upEmb : UEmb _ 𝕄) (chAny (F := F) c M x) := by
  unfold chAny; infer_instance

/-! ## The schedule -/

/-- What the signal named `b` hands device `c`: that partner's landing chunks of the transfers `c` addresses to it. -/
def barPay (c : Dev nD) (b : Bool) : sProp 𝕄 := match b with
  | false => iprop(chAny (pe c) (rM 0) 0 ∗ chAny (pe c) (rM 0) 1 ∗ chAny (pe c) (rM 1) 2 ∗ chAny (pe c) (rM 1) 3)
  | true => iprop(chAny (pf c) (rM 0) 2 ∗ chAny (pf c) (rM 0) 3 ∗ chAny (pf c) (rM 1) 0 ∗ chAny (pf c) (rM 1) 1)
/-- What a transfer hands back to its sender (half the source chunk) and to its receiver (the landed chunk). -/
def xPay (c : Dev nD) (p sd : Fin 2) (x : Fin 4) : sProp 𝕄 := match sd with
  | 0 => ch c (sM p) x fullShare.left (Av m ρ p c x)
  | 1 => ch c (rM p) x fullShare (Av m ρ p (pr p x c) x)

omit [FloatOps F] in
instance barPay_storable (c : Dev nD) (b : Bool) : BI.Storable (upEmb : UEmb _ 𝕄) (barPay (F := F) c b) := by
  cases b <;> (unfold barPay; dsimp only; infer_instance)
instance xPay_storable (c : Dev nD) (p sd : Fin 2) (x : Fin 4) : BI.Storable (upEmb : UEmb _ 𝕄) (xPay (F := F) m ρ c p sd x) := by
  unfold xPay; split <;> infer_instance

abbrev IsBar (g : GSem nD τ sig) : Prop := g.1.2 = .tc ∧ g.2 = .reg barS
/-- A transfer's semaphore: any past the three the launch's staging uses. -/
def isX : SemLoc sig → Bool | .reg _ => false | .dma q => decide (3 ≤ q.val)
abbrev IsXfer (g : GSem nD τ sig) : Prop := g.1.2 = .tc ∧ isX g.2 = true

/-- One round: the barrier cell has two duties of a unit each, a transfer's cell the one duty `false`. -/
def Rd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d := match g.2 with
    | .reg _ => barPay g.1.1 d
    | .dma q => xPay m ρ g.1.1 (dec q).1 (dec q).2.1 (dec q).2.2
  amount_pos g _ _ _ := by
    by_cases h : g.2 = .reg barS
    · rw [if_pos h]; exact Nat.one_pos
    · rw [if_neg h]; exact N_pos

instance Rd_payload_storable (g : GSem nD τ sig) (r : ℕ) (d : Bool) :
    BI.Storable (upEmb : UEmb _ 𝕄) ((Rd (F := F) m ρ).payload g r d) := by
  dsimp only [Rd]; split <;> infer_instance

section Sched
variable (c : Dev nD) (p sd : Fin 2) (x : Fin 4)

theorem x_ne_bar (q : DmaSem sig) : (SemLoc.dma q : SemLoc sig) ≠ .reg barS := fun h => by cases h
theorem isX_x : isX (.dma (xsem p sd x)) = true := decide_eq_true (xsem_ge p sd x)

theorem duties_bar : (Rd (F := F) m ρ).duties (barCell c) 0 = Finset.univ := by dsimp only [Rd]; exact if_pos ⟨rfl, rfl, rfl⟩
theorem duties_x : (Rd (F := F) m ρ).duties (xcell c p sd x) 0 = {false} := by
  dsimp only [Rd]; rw [if_neg (fun h => x_ne_bar _ h.2.2)]; exact if_pos ⟨rfl, rfl, isX_x p sd x⟩
theorem duties_later (g : GSem nD τ sig) : ∀ r, 1 ≤ r → (Rd (F := F) m ρ).duties g r = ∅ :=
  fun r hr => by dsimp only [Rd]; rw [if_neg fun h => by omega, if_neg fun h => by omega]
theorem amount_bar (d : Bool) : (Rd (F := F) m ρ).amount (barCell c) 0 d = 1 := by dsimp only [Rd]; exact if_pos rfl
theorem amount_x (d : Bool) : (Rd (F := F) m ρ).amount (xcell c p sd x) 0 d = N := by dsimp only [Rd]; exact if_neg (x_ne_bar _)
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_x : (Rd (F := F) m ρ).expect (xcell c p sd x) 0 = N := by
  unfold Schedule.expect Schedule.amountOf; rw [duties_x, Finset.sum_singleton, amount_x]
theorem payload_bar (d : Bool) : (Rd (F := F) m ρ).payload (barCell c) 0 d = barPay c d := rfl
theorem payload_x (d : Bool) : (Rd (F := F) m ρ).payload (xcell c p sd x) 0 d = xPay m ρ c p sd x := by
  dsimp only [Rd]; rw [dec_xsem]
/-- The barrier cell's round brings both partners' landing chunks; -/
theorem rest_bar : bigSep ((Rd (F := F) m ρ).duties (barCell c) 0 \ ∅) (fun d => (Rd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- a transfer's cell its one payload. -/
theorem rest_x : bigSep ((Rd (F := F) m ρ).duties (xcell c p sd x) 0 \ ∅) (fun d => (Rd (F := F) m ρ).payload (xcell c p sd x) 0 d)
    = xPay m ρ c p sd x := by
  rw [Finset.sdiff_empty, duties_x, bigSep_singleton, payload_x]

end Sched

/-! ## What a device owes, and the order of its waits -/

/-- A list of debts as a tally: the head is the debt paid next. -/
def tal : List (GSem nD τ sig × ℕ) → CellTallies nD τ sig Unit
  | [] => 0
  | g :: l => tal l + tallyAt g.1 () g.2

theorem tal_apply (l : List (GSem nD τ sig × ℕ)) (g : GSem nD τ sig) :
    tal l g () = (l.map fun e => if e.1 = g then e.2 else 0).sum := by
  induction l with
  | nil => rfl
  | cons e l ih =>
    rw [tal, Pi.add_apply, Finsupp.add_apply, ih, List.map_cons, List.sum_cons, Nat.add_comm, tallyAt_apply]
    congr 1
    by_cases h : e.1 = g
    · rw [if_pos ⟨h.symm, rfl⟩, if_pos h]
    · rw [if_neg (fun h' => h h'.1.symm), if_neg h]

theorem tal_pos {l : List (GSem nD τ sig × ℕ)} {g : GSem nD τ sig} {u : Unit} (h : 0 < tal l g u) : ∃ e ∈ l, e.1 = g := by
  cases u
  by_contra hn
  rw [tal_apply, List.sum_eq_zero] at h
  · exact Nat.lt_irrefl 0 h
  · intro y hy
    obtain ⟨e, he, rfl⟩ := List.mem_map.mp hy
    exact if_neg fun h' => hn ⟨e, he, h'⟩

/-- The debt of the transfer of chunk `x` in phase `p`, to the receiver's cell. -/
abbrev dx (c : Dev nD) (p : Fin 2) (x : Fin 4) : GSem nD τ sig × ℕ := (xcell (pr p x c) p 1 x, N)
abbrev db (c : Dev nD) (b : Bool) : GSem nD τ sig × ℕ := (barCell (pb b c), 1)
/-- What device `c` owes at the start, in the order it pays. -/
def debts (c : Dev nD) : List (GSem nD τ sig × ℕ) :=
  [db c false, db c true, dx c 0 0, dx c 0 2, dx c 0 1, dx c 0 3, dx c 1 0, dx c 1 2, dx c 1 1, dx c 1 3]
def O₀ (c : Dev nD) : CellTallies nD τ sig Unit := tal (debts c)

def L (g : GSem nD τ sig) : Finset Unit := if g.1.2 = .tc then {()} else ∅
/-- Barrier cells at 1, the receivers' cells at 2 in phase `0` and 3 in phase `1`, everything else at 0. -/
def lvs : SemLoc sig → ℕ
  | .reg _ => 1
  | .dma q => if 3 ≤ q.val then (if (dec q).2.1 = 1 then 2 + (dec q).1.val else 0) else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (p sd : Fin 2) (x : Fin 4) (u : Unit) : lv (xcell c p sd x) u = if sd = 1 then 2 + p.val else 0 := by
  show lvs (.dma (xsem p sd x)) = _
  dsimp only [lvs]; rw [if_pos (xsem_ge p sd x), dec_xsem]
theorem lv_bar (c : Dev nD) (u : Unit) : lv (barCell c) u = 1 := rfl

omit [FloatOps F] in
/-- A device may wait on a cell below everything it still owes. -/
theorem mayWait_tal (c : Dev nD) (sm : SemLoc sig) (v : ℕ) (l : List (GSem nD τ sig × ℕ)) (hv : lv ((c : Thread nD τ), sm) () ≤ v)
    (hl : ∀ e ∈ l, L e.1 = {()} ∧ v < lv e.1 ()) :
    (levAts L lv : sProp 𝕄) ⊢ MayWait (c : Thread nD τ) sm () (tal l) :=
  MayOwe.of_cut (L := L) (lev := lv) v (fun q hq => by rw [Finset.mem_singleton.mp hq, L_tc]; exact Finset.mem_singleton_self _)
    (fun g u hg => by obtain ⟨e, he, rfl⟩ := tal_pos hg; rw [(hl e he).1]; exact Finset.mem_singleton_self _)
    (fun q hq => by rw [Finset.mem_singleton.mp hq]; exact hv)
    (fun g u hg => by obtain ⟨e, he, rfl⟩ := tal_pos hg; exact (hl e he).2)

end Cert.KernelIdealX

end
-- ==== Proof.KISteps.lean ====
/-
# The steps of the exchange

One rule per kind of operation the kernel performs on a chunk or on a cell of the exchange.
-/
module

public import proofs.«01_k».proof.Proof.KIProto

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Chunks: shares, whole buffers -/

omit [FloatOps F] in
theorem chM_set (M : BM) (x : Fin 4) : (chM M x).view.set = (M.access (rx x)).set := by
  show ((M.view.slice (rx x)).reshape S128x256 _).set = _
  rw [View.set_reshape]

omit [FloatOps F] in
/-- Two chunks reshaped alike read alike exactly if they read alike in the buffers' own shape. -/
theorem read_chM_iff (M M' : BM) (x x' : Fin 4) (f : M.view.ty.Contents (Elt F)) (g : M'.view.ty.Contents (Elt F)) :
    (chM M x).view.read (Elt F) f = (chM M' x').view.read (Elt F) g ↔ (M.access (rx x)).read (Elt F) f = (M'.access (rx x')).read (Elt F) g := by
  have e : ∀ i, (chM M x).view.read (Elt F) f i = (M.access (rx x)).read (Elt F) f (Shape.reshapeEquiv (squeezes_S1x1x128x256_S128x256).numel_eq i) := fun i => rfl
  have e' : ∀ i, (chM M' x').view.read (Elt F) g i = (M'.access (rx x')).read (Elt F) g (Shape.reshapeEquiv (squeezes_S1x1x128x256_S128x256).numel_eq i) := fun i => rfl
  constructor
  · intro h; funext j
    have h' := congrFun h ((Shape.reshapeEquiv (squeezes_S1x1x128x256_S128x256).numel_eq).symm j)
    rw [e, e', Equiv.apply_symm_apply] at h'; exact h'
  · intro h; funext i; rw [e, e', h]

omit [FloatOps F] in
theorem ch_any (c : Dev nD) (M : BM) (x : Fin 4) (w) : ch (F := F) c M x fullShare w ⊢ chAny c M x := by
  unfold ch chAny; iintro ⟨%f, -, H⟩; iexists f; iexact H
omit [FloatOps F] in
/-- A chunk held whole is two half shares of it; -/
theorem ch_split (c : Dev nD) (M : BM) (x : Fin 4) (w) :
    ch (F := F) c M x fullShare w ⊢ iprop(ch c M x fullShare.left w ∗ ch c M x fullShare.right w) := by
  unfold ch; iintro ⟨%f, %h, H⟩
  ihave H := (pointsTo_share (PosShare.mem_left_op_right fullShare)).1 $$ H
  icases H with ⟨H1, H2⟩
  isplitl [H1]
  · iexists f; isplitr; · (ipureintro; exact h)
    iexact H1
  · iexists f; isplitr; · (ipureintro; exact h)
    iexact H2
omit [FloatOps F] in
/-- two half shares of it are the chunk held whole. -/
theorem ch_join (c : Dev nD) (M : BM) (x : Fin 4) (w w') :
    iprop(ch (F := F) c M x fullShare.left w ∗ ch c M x fullShare.right w') ⊢ chAny c M x := by
  unfold ch chAny; iintro ⟨⟨%f, -, H1⟩, ⟨%g, -, H2⟩⟩
  ihave H := (persistent_entails_right (pointsTo_agree (ℓ := (chM M x).view.loc (c : Thread nD τ)) (q₁ := fullShare.left) (q₂ := fullShare.right)
    (I := (chM M x).view.set) (J := (chM M x).view.set) (f := f) (g := g))) $$ [H1 H2]
  · isplitl [H1] <;> iassumption
  icases H with ⟨%h, H1, H2⟩
  iexists f
  iapply (pointsTo_share (PosShare.mem_left_op_right fullShare)).2
  isplitl [H1]; · iexact H1
  rw [pointsTo_congr (fun i hi => (h i (Finset.mem_inter.mpr ⟨hi, hi⟩)).1)]
  iexact H2

/-! ## Steps on a chunk -/

abbrev 𝒱₀ : Variants := Variants.none

section Mem
variable (c : Dev nD) (M : BM) (x : Fin 4)

/-- A load of a chunk; -/
theorem st_load {α : Type} {Q : α → sProp 𝕄} (q) (w) {hl : M.view.LoadsAt (rx x).toLoadRect} {k : ((rx x).shape.Idx → Elt F .bf16) → Prog (TpuEff nD τ sig (Elt F) Λ₀ .tc) α} :
    ch (F := F) c M x q w ⊢ iprop((ch c M x q w -∗ wp frame (wpE (defs₀ (F := F)) 𝒱₀ (c : Thread nD τ) none) Set.univ (k w) Q)
      -∗ wp frame (wpE (defs₀ (F := F)) 𝒱₀ (c : Thread nD τ) none) Set.univ (.op (.load M (rx x).toLoadRect hl) k) Q) := by
  have hS : (M.access (rx x)).set ⊆ (chM M x).view.set := by rw [chM_set]
  unfold ch; iintro ⟨%f, %h, H⟩ Hk
  iapply (wp_load_rect 𝒱₀ (c : Thread nD τ) none Set.univ (m := M) (r := rx x) hS) $$ H; iintro H
  rw [h]
  iapply Hk
  iexists f; isplitr; · (ipureintro; exact h)
  iexact H

/-- of one holding anything; -/
theorem st_load_any {α : Type} {Q : α → sProp 𝕄} {hl : M.view.LoadsAt (rx x).toLoadRect} {k : ((rx x).shape.Idx → Elt F .bf16) → Prog (TpuEff nD τ sig (Elt F) Λ₀ .tc) α} :
    chAny (F := F) c M x ⊢ iprop((∀ v, chAny c M x -∗ wp frame (wpE (defs₀ (F := F)) 𝒱₀ (c : Thread nD τ) none) Set.univ (k v) Q)
      -∗ wp frame (wpE (defs₀ (F := F)) 𝒱₀ (c : Thread nD τ) none) Set.univ (.op (.load M (rx x).toLoadRect hl) k) Q) := by
  unfold chAny; iintro ⟨%f, H⟩ Hk
  iapply (wp_load_rect 𝒱₀ (c : Thread nD τ) none Set.univ (m := M) (r := rx x) (S := (chM M x).view.set) (by rw [chM_set])) $$ H; iintro H
  iapply Hk
  iexists f; iexact H

/-- a store to one. -/
theorem st_store {α : Type} {Q : α → sProp 𝕄} {w' : (rx x).shape.Idx → Elt F .bf16} (w : (rx x).shape.Idx → Elt F .bf16) (hw : w' = w) {hx : (M.access (rx x)).Stores Finset.univ} {hm : Finset.univ = Finset.univ ∨ ∀ a, (rx x).stride a = 1}
    {k : PUnit → Prog (TpuEff nD τ sig (Elt F) Λ₀ .tc) α} :
    chAny (F := F) c M x ⊢ iprop((ch c M x fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store M (rx x) w' Finset.univ hx hm) k) Q) := by
  subst hw
  unfold ch chAny; iintro ⟨%f, H⟩ Hk
  iapply (wp_store 𝒱₀ (c : Thread nD τ) none Set.univ (m := M) (r := rx x) (Mk := Finset.univ) (S := (chM M x).view.set) (by rw [View.setOn_univ, chM_set])) $$ H; iintro H
  iapply Hk
  iexists _; isplitr; · (ipureintro; exact View.read_write_univ (v := M.access (rx x)) f w')
  iexact H

end Mem

/-! ## The records every device keeps -/

/-- The invariant of every cell under the names `K`, and that every cell's round `0` is reached. -/
def records (K : Dev nD × CN → ℕ) : sProp 𝕄 :=
  iprop((bigSep Finset.univ fun ck : Dev nD × CN => cellInv ER (Rd m ρ) (K ck) (kcell ck))
    ∗ bigSep Finset.univ fun ck : Dev nD × CN => reached ER (kcell ck) 0)

instance records_persistent (K : Dev nD × CN → ℕ) : BI.Persistent (records m ρ K) := by unfold records; infer_instance

theorem rec_inv (K : Dev nD × CN → ℕ) (ck : Dev nD × CN) : records m ρ K ⊢ cellInv ER (Rd m ρ) (K ck) (kcell ck) := by
  have h : (bigSep Finset.univ fun ck : Dev nD × CN => (cellInv ER (Rd m ρ) (K ck) (kcell ck) : sProp 𝕄)) ⊢ cellInv ER (Rd m ρ) (K ck) (kcell ck) :=
    bigSep_elim (Finset.mem_univ ck)
  unfold records; iintro ⟨H, -⟩; iapply h; iexact H
theorem rec_reached (K : Dev nD × CN → ℕ) (ck : Dev nD × CN) : records m ρ K ⊢ reached ER (kcell ck) 0 := by
  have h : (bigSep Finset.univ fun ck : Dev nD × CN => (reached ER (kcell ck) 0 : sProp 𝕄)) ⊢ reached ER (kcell ck) 0 :=
    bigSep_elim (Finset.mem_univ ck)
  unfold records; iintro ⟨-, H⟩; iapply h; iexact H

/-- What a device still owes. -/
def ow (c : Dev nD) (l : List (GSem nD τ sig × ℕ)) : sProp 𝕄 := iprop(∃ W, owes (c : Thread nD τ) (tal l) W)

section Xfer
variable (K : Dev nD × CN → ℕ) (c : Dev nD)

/-- A signal to a partner's barrier hands it this device's landing chunks. -/
theorem st_signal {α : Type} {Q : α → sProp 𝕄} (b : Bool) (n : Dev nD) (hn : n = pb b c) (l : List (GSem nD τ sig × ℕ)) {k : PUnit → Prog (TpuEff nD τ sig (Elt F) Λ₀ .tc) α} :
    iprop(records m ρ K ∗ ow c (db c b :: l) ∗ dutyTok ER (barCell (pb b c)) 0 b ∗ barPay (F := F) (pb b c) b)
      ⊢ iprop((ow c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, Proc.tc) barS (1#32).toInt) k) Q) := by
  subst hn
  unfold ow
  iintro ⟨#HR, ⟨%W, HO⟩, Ht, Hp⟩ Hk
  iapply (Rounds.wp_signal 𝒱₀ ER (Rd m ρ) (c : Thread nD τ) none (dst := (pb b c : Thread nD τ)) (κ := K (pb b c, none))
      (d := b) (by rw [duties_bar]; exact Finset.mem_univ _) ((amount_bar m ρ (pb b c) b).trans (by decide)) () (tal l) rfl) $$ [HO Ht Hp]
  · isplitr; · iapply (rec_inv m ρ K (pb b c, none)); iexact HR
    isplitl [HO]; · iexact HO
    isplitl [Ht]; · iexact Ht
    isplitl [Hp]; · rw [payload_bar]; iexact Hp
    iapply (rec_reached m ρ K (pb b c, none)); iexact HR
  iintro HO
  iapply Hk; iexists W; iexact HO

/-- The wait on the device's own barrier: both partners' landing chunks come, and the counter is its own again. -/
theorem st_barwait {α : Type} {Q : α → sProp 𝕄} (l : List (GSem nD τ sig × ℕ)) (hl : ∀ e ∈ l, L e.1 = {()} ∧ 1 < lv e.1 ()) {k : PUnit → Prog (TpuEff nD τ sig (Elt F) Λ₀ .tc) α} :
    iprop(records m ρ K ∗ cred (tallyAt (barCell c) () 2) ∗ ow c l ∗ levAts L lv ∗ atPos ER (barCell c) 0 ∅ 0)
      ⊢ iprop((ow c l -∗ semVal (barCell c) 0 -∗ barPay (F := F) c false -∗ barPay (F := F) c true
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32).toInt) k) Q) := by
  unfold ow
  iintro ⟨#HR, Hc, ⟨%W, HO⟩, Hlev, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := tal l) (W := W) (R := 0) (m := 0) (T := ∅)
      (by rw [expect_bar]; decide)) $$ [Hc HO Hlev Hat]
  · isplitr; · iapply (rec_inv m ρ K (c, none)); iexact HR
    isplitl [Hc]; · iexact Hc
    isplitl [HO]; · iexact HO
    isplitl [Hlev]; · iapply (mayWait_tal c (.reg barS) 1 l (le_of_eq (lv_bar c ())) hl); iexact Hlev
    iexact Hat
  iintro ⟨HO, Hat, -, Hpay⟩
  ihave Hp := (Entails.of_eq (rest_bar m ρ c)) $$ Hpay
  icases Hp with ⟨Hp1, Hp2⟩
  imod (Rounds.cell_close ER (Rd m ρ) (Set.mem_univ (K (c, none))) (fun h => h) (R := 0 + 1) (duties_later m ρ (barCell c))) $$ [Hat] with Hz
  · isplitr; · iapply (rec_inv m ρ K (c, none)); iexact HR
    iexact Hat
  iapply Hk $$ [HO] [Hz] [Hp1] [Hp2]
  · iexists _; iexact HO
  · iexact Hz
  · iexact Hp1
  · iexact Hp2

/-- A transfer of chunk `x` in phase `p`: the source chunk is lent (any share that the sender's cell hands back), the
    partner's landing chunk is spent. -/
theorem st_send {α : Type} {Q : α → sProp 𝕄} (p : Fin 2) (x : Fin 4) (n : Dev nD) (hn : n = pr p x c) (l : List (GSem nD τ sig × ℕ)) (ss sr : DmaSem sig)
    (hss : ss = xsem p 0 x) (hsr : sr = xsem p 1 x)
    {hsc : (chM (rM p) x : Memref sig (Dev.tc n : Thread nD τ).2.kind .vmem S128x256 .bf16).view.ref.isScScratch = false}
    {hsrc : (chM (sM p) x).view.WordExact} {hdst : (chM (rM p) x).view.WordExact}
    {hsem : DmaTarget.Typed .vmem (.dma sr) (.remote (Dev.tc n : Thread nD τ) (chM (rM p) x) (.dma ss) hsc)}
    {k : PUnit → Prog (TpuEff nD τ sig (Elt F) Λ₀ .tc) α} :
    iprop(records m ρ K ∗ ch c (sM p) x fullShare.left (Av m ρ p c x) ∗ chAny (pr p x c) (rM p) x
        ∗ ow c (dx c p x :: l) ∗ dutyTok ER (xcell c p 0 x) 0 false ∗ dutyTok ER (xcell (pr p x c) p 1 x) 0 false)
      ⊢ iprop((cred (tallyAt (xcell c p 0 x) () N) -∗ ow c l -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chM (sM p) x) (.remote (Dev.tc n : Thread nD τ) (chM (rM p) x) (.dma ss) hsc) (.dma sr) hsrc hdst hsem) k) Q) := by
  subst hn hss hsr
  unfold ow ch chAny
  iintro ⟨#HR, ⟨%fs, %hfs, Hs⟩, ⟨%fd, Hd⟩, ⟨%W, HO⟩, Ht1, Ht2⟩ Hk
  iapply (Rounds.wp_send_pointsTo 𝒱₀ ER (Rd m ρ) (c : Thread nD τ) none (κ₁ := K (c, some (p, 0, x))) (κ₂ := K (pr p x c, some (p, 1, x)))
    (r₁ := 0) (r₂ := 0) (d₁ := false) (d₂ := false) (fs := fs) (fd := fd) (q := fullShare.left)
    (by rw [duties_x]; exact Finset.mem_singleton_self _) (by rw [duties_x]; exact Finset.mem_singleton_self _)
    () () N (show (chM (rM p) x).view.amount (.dma (xsem p 1 x)) = N from credit_r p x) (amount_x m ρ c p 0 x false) (amount_x m ρ (pr p x c) p 1 x false) (tal l) rfl (W := W)
    (by rw [payload_x]; unfold xPay ch; dsimp only
        iintro H; iexists fs; isplitr; · (ipureintro; exact hfs)
        iexact H)
    (by rw [payload_x]; unfold xPay ch; dsimp only
        iintro H; iexists _; isplitr
        swap; · iexact H
        ipureintro
        rw [pr_pr, ← hfs]
        exact (read_chM_iff _ _ x x _ _).mp (View.read_write_univ (v := (chM (rM p) x).view) fd _))) $$ [Hs Hd HO Ht1 Ht2]
  · isplitr; · iapply (rec_inv m ρ K (c, some (p, 0, x))); iexact HR
    isplitr; · iapply (rec_inv m ρ K (pr p x c, some (p, 1, x))); iexact HR
    isplitl [Hs]; · iexact Hs
    isplitl [Hd]; · iexact Hd
    isplitl [HO]; · iexact HO
    isplitl [Ht1]; · iexact Ht1
    isplitr; · iapply (rec_reached m ρ K (c, some (p, 0, x))); iexact HR
    isplitl [Ht2]; · iexact Ht2
    iapply (rec_reached m ρ K (pr p x c, some (p, 1, x))); iexact HR
  iintro ⟨Hc, HO⟩
  iapply Hk $$ [Hc] [HO]
  · iexact Hc
  · iexists W; iexact HO

/-- The wait on a transfer's cell: what the transfer hands back comes, and the counter is the device's own again. -/
theorem st_wait {α : Type} {Q : α → sProp 𝕄} (p sd : Fin 2) (x : Fin 4) (l : List (GSem nD τ sig × ℕ)) (v : ℕ) (hv : (if sd = 1 then 2 + p.val else 0) ≤ v)
    (hl : ∀ e ∈ l, L e.1 = {()} ∧ v < lv e.1 ()) (sm : DmaSem sig) (hsm : sm = xsem p sd x)
    {sp1 sp2 : Space} {sh1 sh2 : Shape} {e1 e2 : EltTy} {src : Memref sig (c : Thread nD τ).2.kind sp1 sh1 e1} {dst : Memref sig (c : Thread nD τ).2.kind sp2 sh2 e2} (hN : dst.view.dmaCredit = N)
    {hsrc : src.view.WordExact} {hdst : dst.view.WordExact}
    {k : PUnit → Prog (TpuEff nD τ sig (Elt F) Λ₀ .tc) α} :
    iprop(records m ρ K ∗ cred (tallyAt (xcell c p sd x) () N) ∗ ow c l ∗ levAts L lv ∗ atPos ER (xcell c p sd x) 0 ∅ 0)
      ⊢ iprop((ow c l -∗ semVal (xcell c p sd x) 0 -∗ xPay m ρ c p sd x
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  subst hsm
  unfold ow
  iintro ⟨#HR, Hc, ⟨%W, HO⟩, Hlev, Hat⟩ Hk
  iapply (Rounds.wp_wait_rest_token 𝒱₀ ER (Rd m ρ) (c : Thread nD τ) none (κ := K (c, some (p, sd, x)))
      (k' := N) (fun K' => (wpE_waitDma2_eq 𝒱₀ (c : Thread nD τ) none Set.univ K').trans (by rw [hN])) (Set.mem_univ _) () (O := tal l) (W := W) (R := 0) (m := 0) (T := ∅)
      (by rw [expect_x, Nat.zero_add])) $$ [Hc HO Hlev Hat]
  · isplitr; · iapply (rec_inv m ρ K (c, some (p, sd, x))); iexact HR
    isplitl [Hc]; · iexact Hc
    isplitl [HO]; · iexact HO
    isplitl [Hlev]; · iapply (mayWait_tal c (.dma (xsem p sd x)) v l (by rw [lv_x]; exact hv) hl); iexact Hlev
    iexact Hat
  iintro ⟨HO, Hat, -, Hpay⟩
  ihave Hp := (Entails.of_eq (rest_x m ρ c p sd x)) $$ Hpay
  imod (Rounds.cell_close ER (Rd m ρ) (Set.mem_univ (K (c, some (p, sd, x)))) (fun h => h) (R := 0 + 1) (duties_later m ρ (xcell c p sd x))) $$ [Hat] with Hz
  · isplitr; · iapply (rec_inv m ρ K (c, some (p, sd, x))); iexact HR
    iexact Hat
  iapply Hk $$ [HO] [Hz] [Hp]
  · iexists _; iexact HO
  · iexact Hz
  · iexact Hp

end Xfer

end Cert.KernelIdealX

end
-- ==== Proof.KIMem.lean ====
/-
# The steps on the staged blocks, the rounded `W` and the result's block
-/
module

public import proofs.«01_k».proof.Proof.KISteps

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks, the rounded `W` and the result's block -/

/-- The staging buffers of `t` and `W`, the buffer of the rounded `W`, the result's buffer. -/
def tpts (c : Dev nD) : sProp 𝕄 := (((c : Thread nD τ).loc cc0_stg0_0) ↦{fullShare} tstg m ρ c)
def wpts (c : Dev nD) : sProp 𝕄 := (((c : Thread nD τ).loc cc0_stg1_0) ↦{fullShare} wstg m ρ c)
def wbpts (c : Dev nD) : sProp 𝕄 := (((c : Thread nD τ).loc cc0_scratch0) ↦{fullShare} (wbv m ρ c : (cc0_scratch0 : Ref sig .tc).ty.Contents (Elt F)))
def opts (c : Dev nD) (f : (cc0_stg2_0 : Ref sig .tc).ty.Contents (Elt F)) : sProp 𝕄 := (((c : Thread nD τ).loc cc0_stg2_0) ↦{fullShare} f)

abbrev rW : Rect S256x256 := Rect.unit (s := S256x256) ![0, 0] S256x256.size inb_S256x256_S256x256_0_0

omit [FloatOps F] in
theorem hz : (![0, 0] : Fin 2 → Nat) = fun _ => 0 := funext fun a => by fin_cases a <;> rfl
omit [FloatOps F] in
theorem read_w (f : (cc0_stg1_0 : Ref sig .tc).ty.Contents (Elt F)) : (wM : Memref sig .tc .vmem S256x256 .f32).view.readAt (Elt F) rW.toLoadRect f = f :=
  Memref.readAt_unit_zero (Elt F) cc0_stg1_0 hz _ f
omit [FloatOps F] in
theorem read_wb (f : (cc0_scratch0 : Ref sig .tc).ty.Contents (Elt F)) : (wbM : Memref sig .tc .vmem S256x256 .bf16).view.readAt (Elt F) rW.toLoadRect f = f :=
  Memref.readAt_unit_zero (Elt F) cc0_scratch0 hz _ f
omit [FloatOps F] in
theorem write_wb (f w : (cc0_scratch0 : Ref sig .tc).ty.Contents (Elt F)) :
    ((wbM : Memref sig .tc .vmem S256x256 .bf16).access rW : View sig .tc _ _ _).write (Elt F) f w Finset.univ = w :=
  Memref.write_access_unit_zero_univ (Elt F) cc0_scratch0 hz _ f w

section Mem
variable (c : Dev nD)

theorem st_load_t {α : Type} {Q : α → sProp 𝕄} (x : Fin 4) {hl : tM.view.LoadsAt (rr x).toLoadRect} {k : (S128x256.Idx → Elt F .f32) → Prog (TpuEff nD τ sig (Elt F) Λ₀ .tc) α} :
    tpts m ρ c ⊢ iprop((tpts m ρ c -∗ wp frame (wpE (defs₀ (F := F)) 𝒱₀ (c : Thread nD τ) none) Set.univ (k (trow m ρ c x)) Q)
      -∗ wp frame (wpE (defs₀ (F := F)) 𝒱₀ (c : Thread nD τ) none) Set.univ (.op (.load tM (rr x).toLoadRect hl) k) Q) :=
  wp_load 𝒱₀ (c : Thread nD τ) none Set.univ (m := tM) (Finset.subset_univ _)

theorem st_load_w {α : Type} {Q : α → sProp 𝕄} {hl : wM.view.LoadsAt rW.toLoadRect} {k : (S256x256.Idx → Elt F .f32) → Prog (TpuEff nD τ sig (Elt F) Λ₀ .tc) α} :
    wpts m ρ c ⊢ iprop((wpts m ρ c -∗ wp frame (wpE (defs₀ (F := F)) 𝒱₀ (c : Thread nD τ) none) Set.univ (k (wstg m ρ c)) Q)
      -∗ wp frame (wpE (defs₀ (F := F)) 𝒱₀ (c : Thread nD τ) none) Set.univ (.op (.load wM rW.toLoadRect hl) k) Q) := by
  unfold wpts; iintro H Hk
  iapply (wp_load 𝒱₀ (c : Thread nD τ) none Set.univ (m := wM) (Finset.subset_univ _)) $$ H; iintro H
  rw [read_w]; iapply Hk; iexact H

theorem st_load_wb {α : Type} {Q : α → sProp 𝕄} {hl : wbM.view.LoadsAt rW.toLoadRect} {k : (S256x256.Idx → Elt F .bf16) → Prog (TpuEff nD τ sig (Elt F) Λ₀ .tc) α} :
    wbpts m ρ c ⊢ iprop((wbpts m ρ c -∗ wp frame (wpE (defs₀ (F := F)) 𝒱₀ (c : Thread nD τ) none) Set.univ (k (wbv m ρ c)) Q)
      -∗ wp frame (wpE (defs₀ (F := F)) 𝒱₀ (c : Thread nD τ) none) Set.univ (.op (.load wbM rW.toLoadRect hl) k) Q) := by
  unfold wbpts; iintro H Hk
  iapply (wp_load 𝒱₀ (c : Thread nD τ) none Set.univ (m := wbM) (Finset.subset_univ _)) $$ H; iintro H
  rw [read_wb]; iapply Hk; iexact H

theorem st_load_wb_any {α : Type} {Q : α → sProp 𝕄} {hl : wbM.view.LoadsAt rW.toLoadRect} {k : (S256x256.Idx → Elt F .bf16) → Prog (TpuEff nD τ sig (Elt F) Λ₀ .tc) α} :
    iprop(∃ f : Buf (Elt F) ((c : Thread nD τ).loc cc0_scratch0), (((c : Thread nD τ).loc cc0_scratch0) ↦{fullShare} f))
      ⊢ iprop((∀ v, (∃ f : Buf (Elt F) ((c : Thread nD τ).loc cc0_scratch0), (((c : Thread nD τ).loc cc0_scratch0) ↦{fullShare} f))
          -∗ wp frame (wpE (defs₀ (F := F)) 𝒱₀ (c : Thread nD τ) none) Set.univ (k v) Q)
        -∗ wp frame (wpE (defs₀ (F := F)) 𝒱₀ (c : Thread nD τ) none) Set.univ (.op (.load wbM rW.toLoadRect hl) k) Q) := by
  iintro ⟨%f, H⟩ Hk
  iapply (wp_load 𝒱₀ (c : Thread nD τ) none Set.univ (m := wbM) (Finset.subset_univ _)) $$ H; iintro H
  iapply Hk; iexists f; iexact H

theorem st_store_wb {α : Type} {Q : α → sProp 𝕄} {hx : (wbM.access rW).Stores Finset.univ} {hm : Finset.univ = Finset.univ ∨ ∀ a, rW.stride a = 1}
    {k : PUnit → Prog (TpuEff nD τ sig (Elt F) Λ₀ .tc) α} :
    iprop(∃ f : Buf (Elt F) ((c : Thread nD τ).loc cc0_scratch0), (((c : Thread nD τ).loc cc0_scratch0) ↦{fullShare} f))
      ⊢ iprop((wbpts m ρ c -∗ wp frame (wpE (defs₀ (F := F)) 𝒱₀ (c : Thread nD τ) none) Set.univ (k ⟨⟩) Q)
        -∗ wp frame (wpE (defs₀ (F := F)) 𝒱₀ (c : Thread nD τ) none) Set.univ (.op (.store wbM rW (k0_pay1 (wstg m ρ c)) Finset.univ hx hm) k) Q) := by
  iintro ⟨%f, H⟩ Hk
  iapply (wp_store 𝒱₀ (c : Thread nD τ) none Set.univ (m := wbM) (r := rW) (Mk := Finset.univ) (Finset.subset_univ _)) $$ H; iintro H
  rw [write_wb]
  iapply Hk; unfold wbpts wbv; iexact H

theorem st_load_o {α : Type} {Q : α → sProp 𝕄} (x : Fin 4) (f) {hl : oM.view.LoadsAt (rr x).toLoadRect} {k : (S128x256.Idx → Elt F .f32) → Prog (TpuEff nD τ sig (Elt F) Λ₀ .tc) α} :
    opts c f ⊢ iprop((∀ v, opts c f -∗ wp frame (wpE (defs₀ (F := F)) 𝒱₀ (c : Thread nD τ) none) Set.univ (k v) Q)
      -∗ wp frame (wpE (defs₀ (F := F)) 𝒱₀ (c : Thread nD τ) none) Set.univ (.op (.load oM (rr x).toLoadRect hl) k) Q) := by
  unfold opts; iintro H Hk
  iapply (wp_load 𝒱₀ (c : Thread nD τ) none Set.univ (m := oM) (Finset.subset_univ _)) $$ H; iintro H
  iapply Hk; iexact H

/-- The result's block with the rows of chunk `x` replaced. -/
def putRow (x : Fin 4) (f : (cc0_stg2_0 : Ref sig .tc).ty.Contents (Elt F)) (w : Vec F S128x256 .f32) : (cc0_stg2_0 : Ref sig .tc).ty.Contents (Elt F) :=
  (oM.access (rr x) : View sig .tc _ _ _).write (Elt F) f w Finset.univ

theorem st_store_o {α : Type} {Q : α → sProp 𝕄} (x : Fin 4) (f) {w' : Vec F S128x256 .f32} (w : Vec F S128x256 .f32) (hw : w' = w) {hx : (oM.access (rr x)).Stores Finset.univ} {hm : Finset.univ = Finset.univ ∨ ∀ a, (rr x).stride a = 1}
    {k : PUnit → Prog (TpuEff nD τ sig (Elt F) Λ₀ .tc) α} :
    opts c f ⊢ iprop((opts c (putRow x f w) -∗ wp frame (wpE (defs₀ (F := F)) 𝒱₀ (c : Thread nD τ) none) Set.univ (k ⟨⟩) Q)
        -∗ wp frame (wpE (defs₀ (F := F)) 𝒱₀ (c : Thread nD τ) none) Set.univ (.op (.store oM (rr x) w' Finset.univ hx hm) k) Q) := by
  subst hw
  exact wp_store 𝒱₀ (c : Thread nD τ) none Set.univ (m := oM) (r := rr x) (Mk := Finset.univ) (Finset.subset_univ _)

end Mem

/-- A block put together of four chunks' rows, over a base. -/
def outW (f : (cc0_stg2_0 : Ref sig .tc).ty.Contents (Elt F)) (w0 w2 w1 w3 : Vec F S128x256 .f32) : (cc0_stg2_0 : Ref sig .tc).ty.Contents (Elt F) :=
  putRow 3 (putRow 1 (putRow 2 (putRow 0 f w0) w2) w1) w3

omit [FloatOps F] in
theorem mem_row (x : Fin 4) (i : S512x256.Idx) : i ∈ (oM.access (rr x) : View sig .tc _ _ _).setOn Finset.univ ↔ (i 0).val / 128 = x.val := by
  rw [View.setOn_univ]
  show i ∈ ((View.whole cc0_stg2_0).slice (rr x)).set ↔ _
  rw [View.set_slice_whole, Rect.mem_set_unit]
  have h0 : (i 0).val < 512 := (i 0).isLt
  have h1 : (i 1).val < 256 := (i 1).isLt
  have e0 : roffs x 0 = 128 * x.val := by revert x; decide
  have e1 : roffs x 1 = 0 := by revert x; decide
  have s0 : S128x256.size 0 = 128 := rfl
  have s1 : S128x256.size 1 = 256 := rfl
  constructor
  · intro h
    have h2 : roffs x 0 ≤ (i 0).val ∧ (i 0).val < roffs x 0 + S128x256.size 0 := h (0 : Fin 2)
    omega
  · intro h
    have a0 : roffs x 0 ≤ (i 0).val ∧ (i 0).val < roffs x 0 + S128x256.size 0 := by omega
    have a1 : roffs x 1 ≤ (i 1).val ∧ (i 1).val < roffs x 1 + S128x256.size 1 := by omega
    exact Fin.forall_fin_two.mpr ⟨a0, a1⟩

omit [FloatOps F] in
/-- The rows of the four chunks cover the block: the base does not matter. -/
theorem outW_base (f g : (cc0_stg2_0 : Ref sig .tc).ty.Contents (Elt F)) (w0 w2 w1 w3 : Vec F S128x256 .f32) : outW f w0 w2 w1 w3 = outW g w0 w2 w1 w3 := by
  funext i
  have hi : (i (0 : Fin 2)).val < 512 := (i (0 : Fin 2)).isLt
  unfold outW putRow
  refine View.write_congr (fun _ _ _ => rfl) fun h3 => View.write_congr (fun _ _ _ => rfl) fun h1 => View.write_congr (fun _ _ _ => rfl) fun h2 =>
    View.write_congr (fun _ _ _ => rfl) fun h0 => ?_
  exfalso
  rw [mem_row] at h0 h1 h2 h3
  simp at h0 h1 h2 h3
  omega

end Cert.KernelIdealX

end
-- ==== Proof.KIGhost.lean ====
/-
# What a device's body starts and ends with
-/
module

public import proofs.«01_k».proof.Proof.KIMem

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts and ends with -/

/-- The device's positions at round `0` of its own cells. -/
def posns (c : Dev nD) : sProp 𝕄 :=
  iprop(atPos ER (barCell c) 0 ∅ 0
    ∗ atPos ER (xcell c 0 0 0) 0 ∅ 0
    ∗ atPos ER (xcell c 0 0 1) 0 ∅ 0
    ∗ atPos ER (xcell c 0 0 2) 0 ∅ 0
    ∗ atPos ER (xcell c 0 0 3) 0 ∅ 0
    ∗ atPos ER (xcell c 0 1 0) 0 ∅ 0
    ∗ atPos ER (xcell c 0 1 1) 0 ∅ 0
    ∗ atPos ER (xcell c 0 1 2) 0 ∅ 0
    ∗ atPos ER (xcell c 0 1 3) 0 ∅ 0
    ∗ atPos ER (xcell c 1 0 0) 0 ∅ 0
    ∗ atPos ER (xcell c 1 0 1) 0 ∅ 0
    ∗ atPos ER (xcell c 1 0 2) 0 ∅ 0
    ∗ atPos ER (xcell c 1 0 3) 0 ∅ 0
    ∗ atPos ER (xcell c 1 1 0) 0 ∅ 0
    ∗ atPos ER (xcell c 1 1 1) 0 ∅ 0
    ∗ atPos ER (xcell c 1 1 2) 0 ∅ 0
    ∗ atPos ER (xcell c 1 1 3) 0 ∅ 0)
/-- The tokens of the duties the device pays. -/
def payToks (c : Dev nD) : sProp 𝕄 :=
  iprop(dutyTok ER (barCell (pb false c)) 0 false
    ∗ dutyTok ER (barCell (pb true c)) 0 true
    ∗ dutyTok ER (xcell c 0 0 0) 0 false
    ∗ dutyTok ER (xcell c 0 0 1) 0 false
    ∗ dutyTok ER (xcell c 0 0 2) 0 false
    ∗ dutyTok ER (xcell c 0 0 3) 0 false
    ∗ dutyTok ER (xcell c 1 0 0) 0 false
    ∗ dutyTok ER (xcell c 1 0 1) 0 false
    ∗ dutyTok ER (xcell c 1 0 2) 0 false
    ∗ dutyTok ER (xcell c 1 0 3) 0 false
    ∗ dutyTok ER (xcell (pr 0 0 c) 0 1 0) 0 false
    ∗ dutyTok ER (xcell (pr 0 1 c) 0 1 1) 0 false
    ∗ dutyTok ER (xcell (pr 0 2 c) 0 1 2) 0 false
    ∗ dutyTok ER (xcell (pr 0 3 c) 0 1 3) 0 false
    ∗ dutyTok ER (xcell (pr 1 0 c) 1 1 0) 0 false
    ∗ dutyTok ER (xcell (pr 1 1 c) 1 1 1) 0 false
    ∗ dutyTok ER (xcell (pr 1 2 c) 1 1 2) 0 false
    ∗ dutyTok ER (xcell (pr 1 3 c) 1 1 3) 0 false)
/-- The credit it waits with. -/
def credits (c : Dev nD) : sProp 𝕄 :=
  iprop(cred (tallyAt (barCell c) () 2)
    ∗ cred (tallyAt (xcell c 0 1 0) () N)
    ∗ cred (tallyAt (xcell c 0 1 1) () N)
    ∗ cred (tallyAt (xcell c 0 1 2) () N)
    ∗ cred (tallyAt (xcell c 0 1 3) () N)
    ∗ cred (tallyAt (xcell c 1 1 0) () N)
    ∗ cred (tallyAt (xcell c 1 1 1) () N)
    ∗ cred (tallyAt (xcell c 1 1 2) () N)
    ∗ cred (tallyAt (xcell c 1 1 3) () N))
/-- Its own counters, all at zero. -/
def zeros (c : Dev nD) : sProp 𝕄 :=
  iprop(semVal (xcell c 0 0 0) 0
    ∗ semVal (xcell c 0 0 1) 0
    ∗ semVal (xcell c 0 0 2) 0
    ∗ semVal (xcell c 0 0 3) 0
    ∗ semVal (xcell c 0 1 0) 0
    ∗ semVal (xcell c 0 1 1) 0
    ∗ semVal (xcell c 0 1 2) 0
    ∗ semVal (xcell c 0 1 3) 0
    ∗ semVal (xcell c 1 0 0) 0
    ∗ semVal (xcell c 1 0 1) 0
    ∗ semVal (xcell c 1 0 2) 0
    ∗ semVal (xcell c 1 0 3) 0
    ∗ semVal (xcell c 1 1 0) 0
    ∗ semVal (xcell c 1 1 1) 0
    ∗ semVal (xcell c 1 1 2) 0
    ∗ semVal (xcell c 1 1 3) 0)
/-- Its four buffers in chunks, and the buffer of the rounded `W`, holding anything. -/
def bufs (c : Dev nD) : sProp 𝕄 :=
  iprop((∃ f : Buf (Elt F) ((c : Thread nD τ).loc cc0_scratch0), (((c : Thread nD τ).loc cc0_scratch0) ↦{fullShare} f))
    ∗ chAny (F := F) c (sM 0) 0
    ∗ chAny (F := F) c (sM 0) 1
    ∗ chAny (F := F) c (sM 0) 2
    ∗ chAny (F := F) c (sM 0) 3
    ∗ chAny (F := F) c (rM 0) 0
    ∗ chAny (F := F) c (rM 0) 1
    ∗ chAny (F := F) c (rM 0) 2
    ∗ chAny (F := F) c (rM 0) 3
    ∗ chAny (F := F) c (sM 1) 0
    ∗ chAny (F := F) c (sM 1) 1
    ∗ chAny (F := F) c (sM 1) 2
    ∗ chAny (F := F) c (sM 1) 3
    ∗ chAny (F := F) c (rM 1) 0
    ∗ chAny (F := F) c (rM 1) 1
    ∗ chAny (F := F) c (rM 1) 2
    ∗ chAny (F := F) c (rM 1) 3)

/-- The device's block of the result. -/
def outAt (c : Dev nD) : (cc0_stg2_0 : Ref sig .tc).ty.Contents (Elt F) :=
  outW (tstg m ρ c) (A3 m ρ c 0) (A3 m ρ c 2) (A3 m ρ c 1) (A3 m ρ c 3)

theorem bar_own_false (c : Dev nD) : barPay (F := F) (pb false c) false
    = iprop(chAny c (rM 0) 0 ∗ chAny c (rM 0) 1 ∗ chAny c (rM 1) 2 ∗ chAny c (rM 1) 3) := by
  unfold barPay; dsimp only; rw [show pe (pb false c) = c from pb_pb false c]
theorem bar_own_true (c : Dev nD) : barPay (F := F) (pb true c) true
    = iprop(chAny c (rM 0) 2 ∗ chAny c (rM 0) 3 ∗ chAny c (rM 1) 0 ∗ chAny c (rM 1) 1) := by
  unfold barPay; dsimp only; rw [show pf (pb true c) = c from pb_pb true c]
theorem bar_got_false (c : Dev nD) : barPay (F := F) c false
    = iprop(chAny (pr 0 0 c) (rM 0) 0 ∗ chAny (pr 0 1 c) (rM 0) 1 ∗ chAny (pr 1 2 c) (rM 1) 2 ∗ chAny (pr 1 3 c) (rM 1) 3) := rfl
theorem bar_got_true (c : Dev nD) : barPay (F := F) c true
    = iprop(chAny (pr 0 2 c) (rM 0) 2 ∗ chAny (pr 0 3 c) (rM 0) 3 ∗ chAny (pr 1 0 c) (rM 1) 0 ∗ chAny (pr 1 1 c) (rM 1) 1) := rfl

theorem get_s (c : Dev nD) (p : Fin 2) (x : Fin 4) : xPay m ρ c p 0 x = ch c (sM p) x fullShare.left (Av m ρ p c x) := rfl
theorem get_r (c : Dev nD) (p : Fin 2) (x : Fin 4) : xPay m ρ c p 1 x = ch c (rM p) x fullShare (Av m ρ p (pr p x c) x) := rfl

theorem pay1_0 (c : Dev nD) : k0_pay2 (trow m ρ c 0) (wbv m ρ c) = Av m ρ 0 c 0 := rfl
theorem pay1_2 (c : Dev nD) : k0_pay4 (k0_pay3 (trow m ρ c 2)) (wbv m ρ c) = Av m ρ 0 c 2 := rfl
theorem pay1_1 (c : Dev nD) : k0_pay5 (trow m ρ c 1) (wbv m ρ c) = Av m ρ 0 c 1 := rfl
theorem pay1_3 (c : Dev nD) : k0_pay7 (k0_pay6 (trow m ρ c 3) (wbv m ρ c)) = Av m ρ 0 c 3 := rfl
theorem pay2_0 (c : Dev nD) : k0_pay8 (Av m ρ 0 c 0) (Av m ρ 0 (pr 0 0 c) 0) = Av m ρ 1 c 0 := rfl
theorem pay2_2 (c : Dev nD) : k0_pay9 (Av m ρ 0 c 2) (Av m ρ 0 (pr 0 2 c) 2) = Av m ρ 1 c 2 := rfl
theorem pay2_1 (c : Dev nD) : k0_pay10 (Av m ρ 0 c 1) (Av m ρ 0 (pr 0 1 c) 1) = Av m ρ 1 c 1 := rfl
theorem pay2_3 (c : Dev nD) : k0_pay11 (Av m ρ 0 c 3) (Av m ρ 0 (pr 0 3 c) 3) = Av m ρ 1 c 3 := rfl
theorem pay3_0 (c : Dev nD) : k0_pay12 (Av m ρ 1 c 0) (Av m ρ 1 (pr 1 0 c) 0) = A3 m ρ c 0 := rfl
theorem pay3_2 (c : Dev nD) : k0_pay13 (Av m ρ 1 c 2) (Av m ρ 1 (pr 1 2 c) 2) = A3 m ρ c 2 := rfl
theorem pay3_1 (c : Dev nD) : k0_pay14 (Av m ρ 1 c 1) (Av m ρ 1 (pr 1 1 c) 1) = A3 m ρ c 1 := rfl
theorem pay3_3 (c : Dev nD) : k0_pay16 (k0_pay15 (Av m ρ 1 c 3)) (Av m ρ 1 (pr 1 3 c) 3) = A3 m ρ c 3 := rfl

/-- A list of debts, every one to a receiver's cell of phase `p₀` or later, lies above `v`. -/
theorem above (c : Dev nD) (v : ℕ) (l : List (Fin 2 × Fin 4)) (h : ∀ e ∈ l, v < 2 + e.1.val) :
    ∀ e ∈ l.map (fun e => dx c e.1 e.2), L e.1 = {()} ∧ v < lv e.1 () := by
  intro e he
  obtain ⟨a, ha, rfl⟩ := List.mem_map.mp he
  exact ⟨L_tc _ _, by show v < lv (xcell (pr a.1 a.2 c) a.1 1 a.2) (); rw [lv_x, if_pos rfl]; exact h a ha⟩

section Body
variable (K : Dev nD × CN → ℕ)

abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

def bodyIn (c : Dev nD) : sProp 𝕄 :=
  iprop(records m ρ K ∗ posns c ∗ payToks c ∗ credits c ∗ levAts L lv ∗ bufs (F := F) c ∗ ow c (debts c)
    ∗ tpts m ρ c ∗ wpts m ρ c ∗ (∃ f, opts (F := F) c f))
def bodyOut (c : Dev nD) : sProp 𝕄 :=
  iprop(semVal (barCell c) 0 ∗ zeros c ∗ bufs (F := F) c ∗ ow c [] ∗ tpts m ρ c ∗ wpts m ρ c ∗ opts c (outAt m ρ c))

end Body

end Cert.KernelIdealX

end
-- ==== Proof.KIBody.lean ====
/-
# The body of the kernel, executed symbolically on one device
-/
module

public import proofs.«01_k».proof.Proof.KIGhost

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × CN → ℕ)

set_option maxHeartbeats 0 in
set_option maxRecDepth 65536 in
/-- The body, one rule per operation in program order. -/
theorem sound_body (c : Dev nD) (Kt : PUnit → sProp 𝕄) :
    iprop(bodyIn m ρ K c ∗ (bodyOut m ρ c -∗ Kt ⟨⟩))
      ⊢ wp frame (wpE (defs₀ (F := F)) 𝒱₀ (c : Thread nD τ) none) Set.univ
          (cc0_body tM (Memref.isWhole_whole _) wM (Memref.isWhole_whole _) oM (Memref.isWhole_whole _) wbM (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part1_skel k0_part2_skel k0_part3_skel k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret, wp_deviceId]
  unfold bodyIn posns payToks credits bufs
  iintro ⟨⟨#HR, ⟨Ab, A_0_0_0, A_0_0_1, A_0_0_2, A_0_0_3, A_0_1_0, A_0_1_1, A_0_1_2, A_0_1_3, A_1_0_0, A_1_0_1, A_1_0_2, A_1_0_3, A_1_1_0, A_1_1_1, A_1_1_2, A_1_1_3⟩, ⟨Tb0, Tb1, TS_0_0, TS_0_1, TS_0_2, TS_0_3, TS_1_0, TS_1_1, TS_1_2, TS_1_3, TR_0_0, TR_0_1, TR_0_2, TR_0_3, TR_1_0, TR_1_1, TR_1_2, TR_1_3⟩,
    ⟨Cb, C_0_0, C_0_1, C_0_2, C_0_3, C_1_0, C_1_1, C_1_2, C_1_3⟩, #HL, ⟨Hwb, S_0_0, S_0_1, S_0_2, S_0_3, R_0_0, R_0_1, R_0_2, R_0_3, S_1_0, S_1_1, S_1_2, S_1_3, R_1_0, R_1_1, R_1_2, R_1_3⟩, HO, HT, HW, ⟨%fo, Hout⟩⟩, Hk⟩

  iapply (st_signal m ρ K c false _ (dev1_eq c) (db c true :: ([dx c 0 0, dx c 0 2, dx c 0 1, dx c 0 3, dx c 1 0, dx c 1 2, dx c 1 1, dx c 1 3]))) $$ [HO Tb0 R_0_0 R_0_1 R_1_2 R_1_3]
  · isplitr; · iexact HR
    isplitl [HO]; · iexact HO
    isplitl [Tb0]; · iexact Tb0
    rw [bar_own_false]
    isplitl [R_0_0]; · iexact R_0_0
    isplitl [R_0_1]; · iexact R_0_1
    isplitl [R_1_2]; · iexact R_1_2
    iexact R_1_3
  iintro HO
  iapply (st_signal m ρ K c true _ (dev2_eq c) ([dx c 0 0, dx c 0 2, dx c 0 1, dx c 0 3, dx c 1 0, dx c 1 2, dx c 1 1, dx c 1 3])) $$ [HO Tb1 R_0_2 R_0_3 R_1_0 R_1_1]
  · isplitr; · iexact HR
    isplitl [HO]; · iexact HO
    isplitl [Tb1]; · iexact Tb1
    rw [bar_own_true]
    isplitl [R_0_2]; · iexact R_0_2
    isplitl [R_0_3]; · iexact R_0_3
    isplitl [R_1_0]; · iexact R_1_0
    iexact R_1_1
  iintro HO
  iapply (st_load_w m ρ c) $$ HW; iintro HW
  iapply (st_load_wb_any c) $$ Hwb; iintro %v1 Hwb
  iapply (st_store_wb m ρ c) $$ Hwb; iintro Hwb
  iapply (st_load_t m ρ c 0) $$ HT; iintro HT
  iapply (st_load_wb m ρ c) $$ Hwb; iintro Hwb
  iapply (st_load_any c (sM 0) 0) $$ S_0_0; iintro %v1_0 S_0_0
  iapply (st_store c (sM 0) 0 _ (pay1_0 m ρ c)) $$ S_0_0; iintro S_0_0
  iapply (st_load_t m ρ c 2) $$ HT; iintro HT
  iapply (st_load_wb m ρ c) $$ Hwb; iintro Hwb
  iapply (st_load_any c (sM 0) 2) $$ S_0_2; iintro %v1_2 S_0_2
  iapply (st_store c (sM 0) 2 _ (pay1_2 m ρ c)) $$ S_0_2; iintro S_0_2
  iapply (st_barwait m ρ K c ([dx c 0 0, dx c 0 2, dx c 0 1, dx c 0 3, dx c 1 0, dx c 1 2, dx c 1 1, dx c 1 3]) (above c 1 [(0, 0), (0, 2), (0, 1), (0, 3), (1, 0), (1, 2), (1, 1), (1, 3)] (by decide))) $$ [Cb HO Ab]
  · isplitr; · iexact HR
    isplitl [Cb]; · iexact Cb
    isplitl [HO]; · iexact HO
    isplitr; · iexact HL
    iexact Ab
  iintro HO Zb HP1 HP2
  ihave HP1 := (Entails.of_eq (bar_got_false c)) $$ HP1; icases HP1 with ⟨D_0_0, D_0_1, D_1_2, D_1_3⟩
  ihave HP2 := (Entails.of_eq (bar_got_true c)) $$ HP2; icases HP2 with ⟨D_0_2, D_0_3, D_1_0, D_1_1⟩
  ihave S_0_0 := (ch_split c (sM 0) 0 _) $$ S_0_0; icases S_0_0 with ⟨SL_0_0, S_0_0⟩
  iapply (st_send m ρ K c 0 0 _ (dev3_eq c) ([dx c 0 2, dx c 0 1, dx c 0 3, dx c 1 0, dx c 1 2, dx c 1 1, dx c 1 3]) _ _ rfl rfl) $$ [SL_0_0 D_0_0 HO TS_0_0 TR_0_0]
  · isplitr; · iexact HR
    isplitl [SL_0_0]; · iexact SL_0_0
    isplitl [D_0_0]; · iexact D_0_0
    isplitl [HO]; · iexact HO
    isplitl [TS_0_0]; · iexact TS_0_0
    iexact TR_0_0
  iintro CS_0_0 HO
  ihave S_0_2 := (ch_split c (sM 0) 2 _) $$ S_0_2; icases S_0_2 with ⟨SL_0_2, S_0_2⟩
  iapply (st_send m ρ K c 0 2 _ (dev4_eq c) ([dx c 0 1, dx c 0 3, dx c 1 0, dx c 1 2, dx c 1 1, dx c 1 3]) _ _ rfl rfl) $$ [SL_0_2 D_0_2 HO TS_0_2 TR_0_2]
  · isplitr; · iexact HR
    isplitl [SL_0_2]; · iexact SL_0_2
    isplitl [D_0_2]; · iexact D_0_2
    isplitl [HO]; · iexact HO
    isplitl [TS_0_2]; · iexact TS_0_2
    iexact TR_0_2
  iintro CS_0_2 HO
  iapply (st_load_t m ρ c 1) $$ HT; iintro HT
  iapply (st_load_wb m ρ c) $$ Hwb; iintro Hwb
  iapply (st_load_any c (sM 0) 1) $$ S_0_1; iintro %v1_1 S_0_1
  iapply (st_store c (sM 0) 1 _ (pay1_1 m ρ c)) $$ S_0_1; iintro S_0_1
  ihave S_0_1 := (ch_split c (sM 0) 1 _) $$ S_0_1; icases S_0_1 with ⟨SL_0_1, S_0_1⟩
  iapply (st_send m ρ K c 0 1 _ (dev5_eq c) ([dx c 0 3, dx c 1 0, dx c 1 2, dx c 1 1, dx c 1 3]) _ _ rfl rfl) $$ [SL_0_1 D_0_1 HO TS_0_1 TR_0_1]
  · isplitr; · iexact HR
    isplitl [SL_0_1]; · iexact SL_0_1
    isplitl [D_0_1]; · iexact D_0_1
    isplitl [HO]; · iexact HO
    isplitl [TS_0_1]; · iexact TS_0_1
    iexact TR_0_1
  iintro CS_0_1 HO
  iapply (st_load_t m ρ c 3) $$ HT; iintro HT
  iapply (st_load_wb m ρ c) $$ Hwb; iintro Hwb
  iapply (st_load_any c (sM 0) 3) $$ S_0_3; iintro %v1_3 S_0_3
  iapply (st_store c (sM 0) 3 _ (pay1_3 m ρ c)) $$ S_0_3; iintro S_0_3
  ihave S_0_3 := (ch_split c (sM 0) 3 _) $$ S_0_3; icases S_0_3 with ⟨SL_0_3, S_0_3⟩
  iapply (st_send m ρ K c 0 3 _ (dev6_eq c) ([dx c 1 0, dx c 1 2, dx c 1 1, dx c 1 3]) _ _ rfl rfl) $$ [SL_0_3 D_0_3 HO TS_0_3 TR_0_3]
  · isplitr; · iexact HR
    isplitl [SL_0_3]; · iexact SL_0_3
    isplitl [D_0_3]; · iexact D_0_3
    isplitl [HO]; · iexact HO
    isplitl [TS_0_3]; · iexact TS_0_3
    iexact TR_0_3
  iintro CS_0_3 HO
  iapply (st_wait m ρ K c 0 1 0 ([dx c 1 0, dx c 1 2, dx c 1 1, dx c 1 3]) 2 (by decide) (above c 2 [(1, 0), (1, 2), (1, 1), (1, 3)] (by decide)) _ rfl (credit_r 0 0)) $$ [C_0_0 HO A_0_1_0]
  · isplitr; · iexact HR
    isplitl [C_0_0]; · iexact C_0_0
    isplitl [HO]; · iexact HO
    isplitr; · iexact HL
    iexact A_0_1_0
  iintro HO Z_0_1_0 R_0_0
  ihave R_0_0 := (Entails.of_eq (get_r m ρ c 0 0)) $$ R_0_0
  iapply (st_load c (sM 0) 0 _ _) $$ S_0_0; iintro S_0_0
  iapply (st_load c (rM 0) 0 _ _) $$ R_0_0; iintro R_0_0
  iapply (st_load_any c (sM 1) 0) $$ S_1_0; iintro %v2_0 S_1_0
  iapply (st_store c (sM 1) 0 _ (pay2_0 m ρ c)) $$ S_1_0; iintro S_1_0
  ihave S_1_0 := (ch_split c (sM 1) 0 _) $$ S_1_0; icases S_1_0 with ⟨SL_1_0, S_1_0⟩
  iapply (st_send m ρ K c 1 0 _ (dev7_eq c) ([dx c 1 2, dx c 1 1, dx c 1 3]) _ _ rfl rfl) $$ [SL_1_0 D_1_0 HO TS_1_0 TR_1_0]
  · isplitr; · iexact HR
    isplitl [SL_1_0]; · iexact SL_1_0
    isplitl [D_1_0]; · iexact D_1_0
    isplitl [HO]; · iexact HO
    isplitl [TS_1_0]; · iexact TS_1_0
    iexact TR_1_0
  iintro CS_1_0 HO
  iapply (st_wait m ρ K c 0 1 2 ([dx c 1 2, dx c 1 1, dx c 1 3]) 2 (by decide) (above c 2 [(1, 2), (1, 1), (1, 3)] (by decide)) _ rfl (credit_r 0 2)) $$ [C_0_2 HO A_0_1_2]
  · isplitr; · iexact HR
    isplitl [C_0_2]; · iexact C_0_2
    isplitl [HO]; · iexact HO
    isplitr; · iexact HL
    iexact A_0_1_2
  iintro HO Z_0_1_2 R_0_2
  ihave R_0_2 := (Entails.of_eq (get_r m ρ c 0 2)) $$ R_0_2
  iapply (st_load c (sM 0) 2 _ _) $$ S_0_2; iintro S_0_2
  iapply (st_load c (rM 0) 2 _ _) $$ R_0_2; iintro R_0_2
  iapply (st_load_any c (sM 1) 2) $$ S_1_2; iintro %v2_2 S_1_2
  iapply (st_store c (sM 1) 2 _ (pay2_2 m ρ c)) $$ S_1_2; iintro S_1_2
  ihave S_1_2 := (ch_split c (sM 1) 2 _) $$ S_1_2; icases S_1_2 with ⟨SL_1_2, S_1_2⟩
  iapply (st_send m ρ K c 1 2 _ (dev8_eq c) ([dx c 1 1, dx c 1 3]) _ _ rfl rfl) $$ [SL_1_2 D_1_2 HO TS_1_2 TR_1_2]
  · isplitr; · iexact HR
    isplitl [SL_1_2]; · iexact SL_1_2
    isplitl [D_1_2]; · iexact D_1_2
    isplitl [HO]; · iexact HO
    isplitl [TS_1_2]; · iexact TS_1_2
    iexact TR_1_2
  iintro CS_1_2 HO
  iapply (st_wait m ρ K c 0 1 1 ([dx c 1 1, dx c 1 3]) 2 (by decide) (above c 2 [(1, 1), (1, 3)] (by decide)) _ rfl (credit_r 0 1)) $$ [C_0_1 HO A_0_1_1]
  · isplitr; · iexact HR
    isplitl [C_0_1]; · iexact C_0_1
    isplitl [HO]; · iexact HO
    isplitr; · iexact HL
    iexact A_0_1_1
  iintro HO Z_0_1_1 R_0_1
  ihave R_0_1 := (Entails.of_eq (get_r m ρ c 0 1)) $$ R_0_1
  iapply (st_load c (sM 0) 1 _ _) $$ S_0_1; iintro S_0_1
  iapply (st_load c (rM 0) 1 _ _) $$ R_0_1; iintro R_0_1
  iapply (st_load_any c (sM 1) 1) $$ S_1_1; iintro %v2_1 S_1_1
  iapply (st_store c (sM 1) 1 _ (pay2_1 m ρ c)) $$ S_1_1; iintro S_1_1
  ihave S_1_1 := (ch_split c (sM 1) 1 _) $$ S_1_1; icases S_1_1 with ⟨SL_1_1, S_1_1⟩
  iapply (st_send m ρ K c 1 1 _ (dev9_eq c) ([dx c 1 3]) _ _ rfl rfl) $$ [SL_1_1 D_1_1 HO TS_1_1 TR_1_1]
  · isplitr; · iexact HR
    isplitl [SL_1_1]; · iexact SL_1_1
    isplitl [D_1_1]; · iexact D_1_1
    isplitl [HO]; · iexact HO
    isplitl [TS_1_1]; · iexact TS_1_1
    iexact TR_1_1
  iintro CS_1_1 HO
  iapply (st_wait m ρ K c 0 1 3 ([dx c 1 3]) 2 (by decide) (above c 2 [(1, 3)] (by decide)) _ rfl (credit_r 0 3)) $$ [C_0_3 HO A_0_1_3]
  · isplitr; · iexact HR
    isplitl [C_0_3]; · iexact C_0_3
    isplitl [HO]; · iexact HO
    isplitr; · iexact HL
    iexact A_0_1_3
  iintro HO Z_0_1_3 R_0_3
  ihave R_0_3 := (Entails.of_eq (get_r m ρ c 0 3)) $$ R_0_3
  iapply (st_load c (sM 0) 3 _ _) $$ S_0_3; iintro S_0_3
  iapply (st_load c (rM 0) 3 _ _) $$ R_0_3; iintro R_0_3
  iapply (st_load_any c (sM 1) 3) $$ S_1_3; iintro %v2_3 S_1_3
  iapply (st_store c (sM 1) 3 _ (pay2_3 m ρ c)) $$ S_1_3; iintro S_1_3
  ihave S_1_3 := (ch_split c (sM 1) 3 _) $$ S_1_3; icases S_1_3 with ⟨SL_1_3, S_1_3⟩
  iapply (st_send m ρ K c 1 3 _ (dev10_eq c) ([]) _ _ rfl rfl) $$ [SL_1_3 D_1_3 HO TS_1_3 TR_1_3]
  · isplitr; · iexact HR
    isplitl [SL_1_3]; · iexact SL_1_3
    isplitl [D_1_3]; · iexact D_1_3
    isplitl [HO]; · iexact HO
    isplitl [TS_1_3]; · iexact TS_1_3
    iexact TR_1_3
  iintro CS_1_3 HO
  iapply (st_wait m ρ K c 1 1 0 ([]) 3 (by decide) (above c 3 [] (by decide)) _ rfl (credit_r 1 0)) $$ [C_1_0 HO A_1_1_0]
  · isplitr; · iexact HR
    isplitl [C_1_0]; · iexact C_1_0
    isplitl [HO]; · iexact HO
    isplitr; · iexact HL
    iexact A_1_1_0
  iintro HO Z_1_1_0 R_1_0
  ihave R_1_0 := (Entails.of_eq (get_r m ρ c 1 0)) $$ R_1_0
  iapply (st_load c (sM 1) 0 _ _) $$ S_1_0; iintro S_1_0
  iapply (st_load c (rM 1) 0 _ _) $$ R_1_0; iintro R_1_0
  iapply (st_load_o c 0 _) $$ Hout; iintro %v3_0 Hout
  iapply (st_store_o c 0 _ _ (pay3_0 m ρ c)) $$ Hout; iintro Hout
  iapply (st_wait m ρ K c 1 1 2 ([]) 3 (by decide) (above c 3 [] (by decide)) _ rfl (credit_r 1 2)) $$ [C_1_2 HO A_1_1_2]
  · isplitr; · iexact HR
    isplitl [C_1_2]; · iexact C_1_2
    isplitl [HO]; · iexact HO
    isplitr; · iexact HL
    iexact A_1_1_2
  iintro HO Z_1_1_2 R_1_2
  ihave R_1_2 := (Entails.of_eq (get_r m ρ c 1 2)) $$ R_1_2
  iapply (st_load c (sM 1) 2 _ _) $$ S_1_2; iintro S_1_2
  iapply (st_load c (rM 1) 2 _ _) $$ R_1_2; iintro R_1_2
  iapply (st_load_o c 2 _) $$ Hout; iintro %v3_2 Hout
  iapply (st_store_o c 2 _ _ (pay3_2 m ρ c)) $$ Hout; iintro Hout
  iapply (st_wait m ρ K c 1 1 1 ([]) 3 (by decide) (above c 3 [] (by decide)) _ rfl (credit_r 1 1)) $$ [C_1_1 HO A_1_1_1]
  · isplitr; · iexact HR
    isplitl [C_1_1]; · iexact C_1_1
    isplitl [HO]; · iexact HO
    isplitr; · iexact HL
    iexact A_1_1_1
  iintro HO Z_1_1_1 R_1_1
  ihave R_1_1 := (Entails.of_eq (get_r m ρ c 1 1)) $$ R_1_1
  iapply (st_load c (sM 1) 1 _ _) $$ S_1_1; iintro S_1_1
  iapply (st_load c (rM 1) 1 _ _) $$ R_1_1; iintro R_1_1
  iapply (st_load_o c 1 _) $$ Hout; iintro %v3_1 Hout
  iapply (st_store_o c 1 _ _ (pay3_1 m ρ c)) $$ Hout; iintro Hout
  iapply (st_wait m ρ K c 1 1 3 ([]) 3 (by decide) (above c 3 [] (by decide)) _ rfl (credit_r 1 3)) $$ [C_1_3 HO A_1_1_3]
  · isplitr; · iexact HR
    isplitl [C_1_3]; · iexact C_1_3
    isplitl [HO]; · iexact HO
    isplitr; · iexact HL
    iexact A_1_1_3
  iintro HO Z_1_1_3 R_1_3
  ihave R_1_3 := (Entails.of_eq (get_r m ρ c 1 3)) $$ R_1_3
  iapply (st_load c (sM 1) 3 _ _) $$ S_1_3; iintro S_1_3
  iapply (st_load c (rM 1) 3 _ _) $$ R_1_3; iintro R_1_3
  iapply (st_load_o c 3 _) $$ Hout; iintro %v3_3 Hout
  iapply (st_store_o c 3 _ _ (pay3_3 m ρ c)) $$ Hout; iintro Hout
  iapply (st_wait m ρ K c 0 0 0 ([]) 0 (by decide) (above c 0 [] (by decide)) _ rfl (credit_s 0 0)) $$ [CS_0_0 HO A_0_0_0]
  · isplitr; · iexact HR
    isplitl [CS_0_0]; · iexact CS_0_0
    isplitl [HO]; · iexact HO
    isplitr; · iexact HL
    iexact A_0_0_0
  iintro HO Z_0_0_0 SL_0_0
  ihave SL_0_0 := (Entails.of_eq (get_s m ρ c 0 0)) $$ SL_0_0
  iapply (st_wait m ρ K c 1 0 0 ([]) 0 (by decide) (above c 0 [] (by decide)) _ rfl (credit_s 1 0)) $$ [CS_1_0 HO A_1_0_0]
  · isplitr; · iexact HR
    isplitl [CS_1_0]; · iexact CS_1_0
    isplitl [HO]; · iexact HO
    isplitr; · iexact HL
    iexact A_1_0_0
  iintro HO Z_1_0_0 SL_1_0
  ihave SL_1_0 := (Entails.of_eq (get_s m ρ c 1 0)) $$ SL_1_0
  iapply (st_wait m ρ K c 0 0 2 ([]) 0 (by decide) (above c 0 [] (by decide)) _ rfl (credit_s 0 2)) $$ [CS_0_2 HO A_0_0_2]
  · isplitr; · iexact HR
    isplitl [CS_0_2]; · iexact CS_0_2
    isplitl [HO]; · iexact HO
    isplitr; · iexact HL
    iexact A_0_0_2
  iintro HO Z_0_0_2 SL_0_2
  ihave SL_0_2 := (Entails.of_eq (get_s m ρ c 0 2)) $$ SL_0_2
  iapply (st_wait m ρ K c 1 0 2 ([]) 0 (by decide) (above c 0 [] (by decide)) _ rfl (credit_s 1 2)) $$ [CS_1_2 HO A_1_0_2]
  · isplitr; · iexact HR
    isplitl [CS_1_2]; · iexact CS_1_2
    isplitl [HO]; · iexact HO
    isplitr; · iexact HL
    iexact A_1_0_2
  iintro HO Z_1_0_2 SL_1_2
  ihave SL_1_2 := (Entails.of_eq (get_s m ρ c 1 2)) $$ SL_1_2
  iapply (st_wait m ρ K c 0 0 1 ([]) 0 (by decide) (above c 0 [] (by decide)) _ rfl (credit_s 0 1)) $$ [CS_0_1 HO A_0_0_1]
  · isplitr; · iexact HR
    isplitl [CS_0_1]; · iexact CS_0_1
    isplitl [HO]; · iexact HO
    isplitr; · iexact HL
    iexact A_0_0_1
  iintro HO Z_0_0_1 SL_0_1
  ihave SL_0_1 := (Entails.of_eq (get_s m ρ c 0 1)) $$ SL_0_1
  iapply (st_wait m ρ K c 1 0 1 ([]) 0 (by decide) (above c 0 [] (by decide)) _ rfl (credit_s 1 1)) $$ [CS_1_1 HO A_1_0_1]
  · isplitr; · iexact HR
    isplitl [CS_1_1]; · iexact CS_1_1
    isplitl [HO]; · iexact HO
    isplitr; · iexact HL
    iexact A_1_0_1
  iintro HO Z_1_0_1 SL_1_1
  ihave SL_1_1 := (Entails.of_eq (get_s m ρ c 1 1)) $$ SL_1_1
  iapply (st_wait m ρ K c 0 0 3 ([]) 0 (by decide) (above c 0 [] (by decide)) _ rfl (credit_s 0 3)) $$ [CS_0_3 HO A_0_0_3]
  · isplitr; · iexact HR
    isplitl [CS_0_3]; · iexact CS_0_3
    isplitl [HO]; · iexact HO
    isplitr; · iexact HL
    iexact A_0_0_3
  iintro HO Z_0_0_3 SL_0_3
  ihave SL_0_3 := (Entails.of_eq (get_s m ρ c 0 3)) $$ SL_0_3
  iapply (st_wait m ρ K c 1 0 3 ([]) 0 (by decide) (above c 0 [] (by decide)) _ rfl (credit_s 1 3)) $$ [CS_1_3 HO A_1_0_3]
  · isplitr; · iexact HR
    isplitl [CS_1_3]; · iexact CS_1_3
    isplitl [HO]; · iexact HO
    isplitr; · iexact HL
    iexact A_1_0_3
  iintro HO Z_1_0_3 SL_1_3
  ihave SL_1_3 := (Entails.of_eq (get_s m ρ c 1 3)) $$ SL_1_3
  rw [wp_ret]; imodintro
  iapply Hk
  unfold bodyOut zeros bufs
  isplitl [Zb]; · iexact Zb
  isplitl [Z_0_0_0 Z_0_0_1 Z_0_0_2 Z_0_0_3 Z_0_1_0 Z_0_1_1 Z_0_1_2 Z_0_1_3 Z_1_0_0 Z_1_0_1 Z_1_0_2 Z_1_0_3 Z_1_1_0 Z_1_1_1 Z_1_1_2 Z_1_1_3]
  · isplitl [Z_0_0_0]; · iexact Z_0_0_0
    isplitl [Z_0_0_1]; · iexact Z_0_0_1
    isplitl [Z_0_0_2]; · iexact Z_0_0_2
    isplitl [Z_0_0_3]; · iexact Z_0_0_3
    isplitl [Z_0_1_0]; · iexact Z_0_1_0
    isplitl [Z_0_1_1]; · iexact Z_0_1_1
    isplitl [Z_0_1_2]; · iexact Z_0_1_2
    isplitl [Z_0_1_3]; · iexact Z_0_1_3
    isplitl [Z_1_0_0]; · iexact Z_1_0_0
    isplitl [Z_1_0_1]; · iexact Z_1_0_1
    isplitl [Z_1_0_2]; · iexact Z_1_0_2
    isplitl [Z_1_0_3]; · iexact Z_1_0_3
    isplitl [Z_1_1_0]; · iexact Z_1_1_0
    isplitl [Z_1_1_1]; · iexact Z_1_1_1
    isplitl [Z_1_1_2]; · iexact Z_1_1_2
    iexact Z_1_1_3
  isplitl [Hwb S_0_0 S_0_1 S_0_2 S_0_3 R_0_0 R_0_1 R_0_2 R_0_3 S_1_0 S_1_1 S_1_2 S_1_3 R_1_0 R_1_1 R_1_2 R_1_3 SL_0_0 SL_0_1 SL_0_2 SL_0_3 SL_1_0 SL_1_1 SL_1_2 SL_1_3]
  · isplitl [Hwb]; · unfold wbpts; iexists _; iexact Hwb
    isplitl [SL_0_0 S_0_0]; · iapply (ch_join c (sM 0) 0 _ _); isplitl [SL_0_0] <;> iassumption
    isplitl [SL_0_1 S_0_1]; · iapply (ch_join c (sM 0) 1 _ _); isplitl [SL_0_1] <;> iassumption
    isplitl [SL_0_2 S_0_2]; · iapply (ch_join c (sM 0) 2 _ _); isplitl [SL_0_2] <;> iassumption
    isplitl [SL_0_3 S_0_3]; · iapply (ch_join c (sM 0) 3 _ _); isplitl [SL_0_3] <;> iassumption
    isplitl [R_0_0]; · iapply (ch_any c (rM 0) 0 _); iexact R_0_0
    isplitl [R_0_1]; · iapply (ch_any c (rM 0) 1 _); iexact R_0_1
    isplitl [R_0_2]; · iapply (ch_any c (rM 0) 2 _); iexact R_0_2
    isplitl [R_0_3]; · iapply (ch_any c (rM 0) 3 _); iexact R_0_3
    isplitl [SL_1_0 S_1_0]; · iapply (ch_join c (sM 1) 0 _ _); isplitl [SL_1_0] <;> iassumption
    isplitl [SL_1_1 S_1_1]; · iapply (ch_join c (sM 1) 1 _ _); isplitl [SL_1_1] <;> iassumption
    isplitl [SL_1_2 S_1_2]; · iapply (ch_join c (sM 1) 2 _ _); isplitl [SL_1_2] <;> iassumption
    isplitl [SL_1_3 S_1_3]; · iapply (ch_join c (sM 1) 3 _ _); isplitl [SL_1_3] <;> iassumption
    isplitl [R_1_0]; · iapply (ch_any c (rM 1) 0 _); iexact R_1_0
    isplitl [R_1_1]; · iapply (ch_any c (rM 1) 1 _); iexact R_1_1
    isplitl [R_1_2]; · iapply (ch_any c (rM 1) 2 _); iexact R_1_2
    iapply (ch_any c (rM 1) 3 _); iexact R_1_3
  isplitl [HO]; · iexact HO
  isplitl [HT]; · iexact HT
  isplitl [HW]; · iexact HW
  unfold outAt; rw [← outW_base fo]; iexact Hout

end Body

end Cert.KernelIdealX

end
-- ==== Proof.KIOblig.lean ====
/-
# The body as the launch library asks for it
-/
module

public import proofs.«01_k».proof.Proof.KIBody
public import proofs.«01_k».proof.Proof.Gen.KernelIdeal.Points

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer of four chunks, whole and cut -/

omit [FloatOps F] in
/-- Which elements of a buffer chunk `x` has. -/
theorem mem_rx (x : Fin 4) (i : S2x2x128x256.Idx) : i ∈ (rx x).set ↔ 2 * (i 0).val + (i 1).val = x.val := by
  rw [Rect.mem_set_unit]
  have h0 : (i 0).val < 2 := (i 0).isLt
  have h1 : (i 1).val < 2 := (i 1).isLt
  have h2 : (i 2).val < 128 := (i 2).isLt
  have h3 : (i 3).val < 256 := (i 3).isLt
  have e0 : offs x 0 = x.val / 2 := by revert x; decide
  have e1 : offs x 1 = x.val % 2 := by revert x; decide
  have e2 : offs x 2 = 0 := by revert x; decide
  have e3 : offs x 3 = 0 := by revert x; decide
  have s0 : S1x1x128x256.size 0 = 1 := rfl
  have s1 : S1x1x128x256.size 1 = 1 := rfl
  have s2 : S1x1x128x256.size 2 = 128 := rfl
  have s3 : S1x1x128x256.size 3 = 256 := rfl
  constructor
  · intro h
    have a0 : offs x 0 ≤ (i 0).val ∧ (i 0).val < offs x 0 + S1x1x128x256.size 0 := h (0 : Fin 4)
    have a1 : offs x 1 ≤ (i 1).val ∧ (i 1).val < offs x 1 + S1x1x128x256.size 1 := h (1 : Fin 4)
    omega
  · intro h
    have a0 : offs x 0 ≤ (i 0).val ∧ (i 0).val < offs x 0 + S1x1x128x256.size 0 := by omega
    have a1 : offs x 1 ≤ (i 1).val ∧ (i 1).val < offs x 1 + S1x1x128x256.size 1 := by omega
    have a2 : offs x 2 ≤ (i 2).val ∧ (i 2).val < offs x 2 + S1x1x128x256.size 2 := by omega
    have a3 : offs x 3 ≤ (i 3).val ∧ (i 3).val < offs x 3 + S1x1x128x256.size 3 := by omega
    intro a
    match a with
    | 0 => exact a0
    | 1 => exact a1
    | 2 => exact a2
    | 3 => exact a3

omit [FloatOps F] in
/-- Two chunks share no element, -/
theorem rx_disj {x x' : Fin 4} (h : x ≠ x') : Disjoint (rx x).set (rx x').set := by
  rw [Finset.disjoint_left]
  intro i hi hi'
  rw [mem_rx] at hi hi'
  exact h (Fin.ext (hi.symm.trans hi'))

omit [FloatOps F] in
/-- nor do they in a buffer; -/
theorem ch_disj (M : BM) {x x' : Fin 4} (h : x ≠ x') : Disjoint (chM M x).view.set (chM M x').view.set := by
  rw [chM_set, chM_set]
  show Disjoint (M.view.slice (rx x)).set (M.view.slice (rx x')).set
  rw [View.set_slice, View.set_slice]
  exact (Finset.disjoint_map _).mpr (rx_disj h)

omit [FloatOps F] in
/-- together the four are the buffer. -/
theorem ch_cover (M : BM) : (Finset.univ : Finset (Fin 4)).biUnion (fun x => (chM M x).view.set) = M.view.set := by
  ext i
  rw [Finset.mem_biUnion]
  constructor
  · rintro ⟨x, -, h⟩
    rw [chM_set] at h
    exact View.set_slice_subset M.view (rx x) h
  · intro h
    obtain ⟨j, -, rfl⟩ := Finset.mem_map.mp h
    have h0 : (j (0 : Fin 4)).val < 2 := (j 0).isLt
    have h1 : (j (1 : Fin 4)).val < 2 := (j 1).isLt
    refine ⟨⟨2 * (j (0 : Fin 4)).val + (j (1 : Fin 4)).val, by omega⟩, Finset.mem_univ _, ?_⟩
    rw [chM_set]
    show _ ∈ (M.view.slice (rx _)).set
    rw [View.set_slice]
    exact Finset.mem_map.mpr ⟨j, (mem_rx _ j).mpr rfl, rfl⟩

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A whole buffer is its four chunks; -/
theorem cut (c : Dev nD) (M : BM) (hM : M.view.set = Finset.univ) :
    iprop(∃ f : Buf (Elt F) (M.view.loc (c : Thread nD τ)), (M.view.loc (c : Thread nD τ)) ↦{fullShare} f)
      ⊢ (iprop(chAny c M 0 ∗ chAny c M 1 ∗ chAny c M 2 ∗ chAny c M 3) : sProp 𝕄) := by
  have e (f : Buf (Elt F) (M.view.loc (c : Thread nD τ))) : ((M.view.loc (c : Thread nD τ)) ↦{fullShare} f : sProp 𝕄)
      ⊢ bigSep Finset.univ fun x => ((M.view.loc (c : Thread nD τ)) ↦[(chM M x).view.set]{fullShare} f) := by
    rw [← hM, ← ch_cover M, pointsTo_biUnion _ _ (fun x _ x' _ h => ch_disj M h)]
  iintro ⟨%f, H⟩
  ihave H := (e f) $$ H
  ihave H := (Entails.of_eq (bigSep_fin4 (F := F) _)) $$ H
  icases H with ⟨H0, H1, H2, H3⟩
  unfold chAny
  isplitl [H0]; · iexists f; iexact H0
  isplitl [H1]; · iexists f; iexact H1
  isplitl [H2]; · iexists f; iexact H2
  iexists f; iexact H3

omit [FloatOps F] in
/-- four chunks are the whole buffer. -/
theorem uncut (c : Dev nD) (M : BM) (hM : M.view.set = Finset.univ) :
    (iprop(chAny c M 0 ∗ chAny c M 1 ∗ chAny c M 2 ∗ chAny c M 3) : sProp 𝕄)
      ⊢ iprop(∃ f : Buf (Elt F) (M.view.loc (c : Thread nD τ)), (M.view.loc (c : Thread nD τ)) ↦{fullShare} f) := by
  unfold chAny
  iintro ⟨⟨%f0, H0⟩, ⟨%f1, H1⟩, ⟨%f2, H2⟩, ⟨%f3, H3⟩⟩
  ihave H := (pointsTo_biUnion_join (ℓ := M.view.loc (c : Thread nD τ)) (q := fullShare) Finset.univ (fun x => (chM M x).view.set)
    (fun x => match x with | 0 => f0 | 1 => f1 | 2 => f2 | 3 => f3) f0 (fun x _ x' _ h => ch_disj M h)) $$ [H0 H1 H2 H3]
  · rw [bigSep_fin4]
    isplitl [H0]; · iexact H0
    isplitl [H1]; · iexact H1
    isplitl [H2]; · iexact H2
    iexact H3
  icases H with ⟨%g, -, H⟩
  rw [ch_cover M, hM]
  iexists g; iexact H

omit [FloatOps F] in
theorem sM_set (p : Fin 2) : (sM p).view.set = Finset.univ := by fin_cases p <;> exact View.set_whole _
omit [FloatOps F] in
theorem rM_set (p : Fin 2) : (rM p).view.set = Finset.univ := by fin_cases p <;> exact View.set_whole _

/-! ## The pipeline's proof data -/

/-- The ghost state device `c` starts from. -/
def ghost (K : Dev nD × CN → ℕ) (c : Dev nD) : sProp 𝕄 := iprop(records m ρ K ∗ posns c ∗ payToks c)
/-- What it starts from with its credit and the levels. -/
def start (c : Dev nD) : sProp 𝕄 := iprop((∃ K, ghost m ρ K c) ∗ credits c ∗ levAts L lv)

def Φ₀ (c : Dev nD) : sProp 𝕄 := iprop(start m ρ c ∗ bufs (F := F) c)
def Φ₁ (c : Dev nD) : sProp 𝕄 := iprop(semVal (barCell c) 0 ∗ zeros c ∗ bufs (F := F) c)

/-- What the windows hold before and after the one grid point, and what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (tstg m ρ c) ∗ stg c cc0_stg1_0 (wstg m ρ c) ∗ stg c cc0_stg2_0 (outAt m ρ c))

/-- What the body leaves is what the library asks for, -/
theorem post_intro (c : Dev nD) : bodyOut m ρ c ⊢ bodyPost m ρ c := by
  unfold bodyOut bodyPost Φ₁ Dat.owesAt Pipeline.owesWithin ow tpts wpts opts
  rw [show (dats m ρ 0 c).owed t0_0.succ = 0 from rfl]
  iintro ⟨Hb, Hz, Hbuf, ⟨%W, HO⟩, HT, HW, Ho⟩
  isplitl [Hb Hz Hbuf]
  · isplitl [Hb]; · iexact Hb
    isplitl [Hz] <;> iassumption
  isplitl [HO]
  · iexists W
    isplitr; · ipureintro; exact fun _ _ => Or.inl trivial
    iexact HO
  isplitl [HT]
  · iexists _; isplitr; · (ipureintro; rfl)
    iexact HT
  isplitl [HW]
  · iexists _; isplitr; · (ipureintro; rfl)
    iexact HW
  iexists _; isplitr; · (ipureintro; rfl)
  iexact Ho

/-- and what the library gives is what the body takes. -/
theorem pre_elim (c : Dev nD) : bodyPre m ρ c ⊢ (iprop(∃ K, bodyIn m ρ K c) : sProp 𝕄) := by
  unfold bodyPre Φ₀ start ghost bodyIn Dat.owesAt Pipeline.owesWithin ow tpts wpts opts
  rw [show (dats m ρ 0 c).owed t0_0.castSucc = tal (debts c) from rfl]
  iintro ⟨⟨⟨⟨%K, HR, Hpos, Htok⟩, Hcr, Hlev⟩, Hbuf⟩, ⟨%W, -, HO⟩, ⟨%d0, %g0, %hg0, HT⟩, ⟨%d1, %g1, %hg1, HW⟩, ⟨%d2, %g2, -, Ho⟩⟩
  have hT : g0 = tstg m ρ c := by rw [hg0]; unfold Dat.before; rw [if_pos (fetch0_0 t0_0)]; rfl
  have hW : g1 = wstg m ρ c := by rw [hg1]; unfold Dat.before; rw [if_pos (fetch0_1 t0_0)]; rfl
  subst hT hW
  iexists K
  isplitl [HR]; · iexact HR
  isplitl [Hpos]; · iexact Hpos
  isplitl [Htok]; · iexact Htok
  isplitl [Hcr]; · iexact Hcr
  isplitl [Hlev]; · iexact Hlev
  isplitl [Hbuf]; · iexact Hbuf
  isplitl [HO]; · iexists W; iexact HO
  isplitl [HT]; · iexact HT
  isplitl [HW]; · iexact HW
  iexists g2; iexact Ho

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body tM (Memref.isWhole_whole _) wM (Memref.isWhole_whole _) oM (Memref.isWhole_whole _) wbM (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8) (fun _ => bodyPost m ρ c)
  iintro H
  ihave H := (pre_elim m ρ c) $$ H
  icases H with ⟨%K, H⟩
  iapply (sound_body m ρ K c fun _ => bodyPost m ρ c)
  isplitl [H]; · iexact H
  iintro H; iapply (post_intro m ρ c); iexact H

end Cert.KernelIdealX

end
-- ==== Proof.KIRun.lean ====
/-
# The launch and the run of the program
-/
module

public import proofs.«01_k».proof.Proof.KIOblig
public import Idealize.ShloMosaic.Lib.Pipeline.CollectiveSegs

@[expose] public section

noncomputable section

namespace Cert.KernelIdealX

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch: cells, tokens, ghost state -/

abbrev osem (j : Fin 16) : SemLoc sig := .dma (⟨3 + j.val, by omega⟩ : Fin 19)
theorem ownSemFacts : Pipeline.OwnSemFacts cfg0.spec osem := by decide

theorem share_eq (c : Dev nD) (w : Fin cfg0.W) : (dats m ρ 0 c).share w = fullShare := by unfold Dat.share; split <;> rfl

def xCells : Finset (GSem nD τ sig) := Finset.univ.map ⟨kcell, kcell_injective⟩

/-- A device's duties by name: its barrier's two, and each transfer's one. -/
abbrev TN : Type := Bool ⊕ (Fin 2 × Fin 2 × Fin 4)
abbrev tokOf (cj : Dev nD × TN) : GSem nD τ sig × ℕ × Bool := match cj.2 with
  | .inl b => (barCell cj.1, 0, b) | .inr (p, sd, x) => (xcell cj.1 p sd x, 0, false)
/-- No two duties have one token. -/
theorem tokOf_injective : Function.Injective (tokOf : Dev nD × TN → GSem nD τ sig × ℕ × Bool) := by
  rintro ⟨c, j⟩ ⟨c', j'⟩ h
  have hk : kcell (c, j.elim (fun _ => none) some) = kcell (c', j'.elim (fun _ => none) some) := by
    have h' := congrArg Prod.fst h
    rcases j with b | ⟨p, sd, x⟩ <;> rcases j' with b' | ⟨p', sd', x'⟩ <;> exact h'
  have hb := congrArg (fun y : GSem nD τ sig × ℕ × Bool => y.2.2) h
  have he := kcell_injective hk
  rcases j with b | ⟨p, sd, x⟩ <;> rcases j' with b' | ⟨p', sd', x'⟩
  · have h1 : c = c' := congrArg Prod.fst he
    have h2 : b = b' := hb
    rw [h1, h2]
  · exact absurd (congrArg Prod.snd he) (fun h' => by cases h')
  · exact absurd (congrArg Prod.snd he) (fun h' => by cases h')
  · have h1 : c = c' := congrArg Prod.fst he
    have h2 : (some (p, sd, x) : CN) = some (p', sd', x') := congrArg Prod.snd he
    rw [h1, Option.some.inj h2]
def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 := bigSep Finset.univ fun j : TN => dutyTok ER (tokOf (c, j)).1 (tokOf (c, j)).2.1 (tokOf (c, j)).2.2

/-- What the launch element deals device `c`. -/
def G (c : Dev nD) : sProp 𝕄 :=
  iprop((bigSep Finset.univ fun k : CN => roundState ER (Rd m ρ) (kcell (c, k)) 0)
    ∗ (bigSep Finset.univ fun k : CN => iprop(atPos ER (kcell (c, k)) 0 ∅ 0 ∗ reached ER (kcell (c, k)) 0)) ∗ toks c)
/-- What the global step makes of it. -/
def G' (c : Dev nD) : sProp 𝕄 := iprop(∃ K, ghost m ρ K c)

/-- The launch element gives every device its cells, positions and tokens. -/
theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : CN => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]; rfl
  iintro HX
  imod (Rounds.fund ER (Rd m ρ) xCells xToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The transfers' semaphores are the kernel's own sixteen; -/
theorem ownSems0_eq (c : Dev nD) : (Pipeline.ownSems0 (Ix := Unit) (Name := ℕ) (U := UU) (Lvl := ℕ) (Val := Elt F) (τ := τ) osem c : sProp 𝕄)
    = zeros c := by
  rw [Pipeline.ownSems0_eq_of_list c osem [0, 1, 2, 3, 4, 5, 6, 7, 8, 9, 10, 11, 12, 13, 14, 15] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The cells of a device one by one. -/
theorem bigSep_CN (Φ : CN → sProp 𝕄) : bigSep Finset.univ Φ
    = bigSepL [none, some (0, 0, 0), some (0, 0, 1), some (0, 0, 2), some (0, 0, 3), some (0, 1, 0), some (0, 1, 1), some (0, 1, 2), some (0, 1, 3), some (1, 0, 0), some (1, 0, 1), some (1, 0, 2), some (1, 0, 3), some (1, 1, 0), some (1, 1, 1), some (1, 1, 2), some (1, 1, 3)] Φ :=
  bigSep_univ_eq_bigSepL _ (by decide) (by decide) Φ
omit [FloatOps F] in
theorem bigSep_TN (Φ : TN → sProp 𝕄) : bigSep Finset.univ Φ
    = bigSepL [.inl false, .inl true, .inr (0, 0, 0), .inr (0, 0, 1), .inr (0, 0, 2), .inr (0, 0, 3), .inr (1, 0, 0), .inr (1, 0, 1), .inr (1, 0, 2), .inr (1, 0, 3),
      .inr (0, 1, 0), .inr (0, 1, 1), .inr (0, 1, 2), .inr (0, 1, 3), .inr (1, 1, 0), .inr (1, 1, 1), .inr (1, 1, 2), .inr (1, 1, 3)] Φ :=
  bigSep_univ_eq_bigSepL _ (by decide) (by decide) Φ

omit [FloatOps F] in
theorem semVals_eq (c : Dev nD) : (bigSep Finset.univ fun k : CN => semVal (kcell (c, k)) 0 : sProp 𝕄) = iprop(semVal (barCell c) 0 ∗ zeros c) := by
  rw [bigSep_CN]; rfl
omit [FloatOps F] in
theorem posns_eq (c : Dev nD) : (bigSep Finset.univ fun k : CN => atPos ER (kcell (c, k)) 0 ∅ 0 : sProp 𝕄) = posns c := by
  rw [bigSep_CN]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CN => semVal (kcell (c, k)) 0 : sProp 𝕄) := by
  rw [ownSems0_eq, unscopedSems0_eq, semVals_eq]
  iintro ⟨H, HB⟩
  isplitl [HB] <;> iassumption

/-- One device's counters go into the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CN => iprop(∃ κ : ℕ, cellInv ER (Rd m ρ) κ (kcell (c, k))))
          ∗ (bigSep Finset.univ fun k : CN => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CN => semVal (kcell (c, k)) 0) ∗ bigSep Finset.univ fun k : CN => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt out: each to the device that pays the duty -/

/-- Whose cell the device's duty of that name is at: a partner's, but its own for its send semaphores. -/
def tdst (j : TN) (c : Dev nD) : Dev nD := match j with
  | .inl b => pb b c | .inr (p, 0, x) => c | .inr (p, 1, x) => pr p x c
theorem tdst_tdst (j : TN) (c : Dev nD) : tdst j (tdst j c) = c := by
  rcases j with b | ⟨p, sd, x⟩
  · exact pb_pb b c
  · fin_cases sd
    · rfl
    · exact pr_pr p x c
def tdstE : Dev nD × TN ≃ Dev nD × TN :=
  ⟨fun cj => (tdst cj.2 cj.1, cj.2), fun cj => (tdst cj.2 cj.1, cj.2), fun cj => by simp only [tdst_tdst], fun cj => by simp only [tdst_tdst]⟩

omit [FloatOps F] in
theorem payToks_eq (c : Dev nD) : (bigSep Finset.univ fun j : TN => dutyTok ER (tokOf (tdst j c, j)).1 (tokOf (tdst j c, j)).2.1 (tokOf (tdst j c, j)).2.2 : sProp 𝕄)
    = payToks c := by
  rw [bigSep_TN]; rfl

omit [FloatOps F] in
/-- The tokens of the owners of the cells are the tokens of the payers. -/
theorem toks_around : (bigSep Finset.univ fun c : Dev nD => (toks c : sProp 𝕄)) = bigSep Finset.univ fun c : Dev nD => payToks c := by
  unfold toks
  rw [← bigSep_univ_prod (fun cj : Dev nD × TN => (dutyTok ER (tokOf cj).1 (tokOf cj).2.1 (tokOf cj).2.2 : sProp 𝕄)), bigSep_univ_equiv tdstE, bigSep_univ_prod]
  exact bigSep_congr fun c _ => payToks_eq c

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CN → ℕ) (c : Dev nD) : iprop(records m ρ K ∗ posns c ∗ payToks c) ⊢ G' m ρ c := by
  unfold G' ghost
  iintro H; iexists K; iexact H

/-- The devices' shares, with the invariants known to all. -/
theorem regroup :
    (bigSep Finset.univ fun c : Dev nD => iprop((bigSep Finset.univ fun k : CN => iprop(∃ κ : ℕ, cellInv ER (Rd m ρ) κ (kcell (c, k))))
          ∗ (bigSep Finset.univ fun k : CN => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CN => iprop(∃ κ : ℕ, cellInv ER (Rd m ρ) κ (kcell ck))),
    bigSep_congr (s := Finset.univ) (fun (c : Dev nD) _ => bigSep_sep' Finset.univ (fun k : CN => (atPos ER (kcell (c, k)) 0 ∅ 0 : sProp 𝕄)) (fun k => reached ER (kcell (c, k)) 0)),
    bigSep_sep', ← bigSep_univ_prod (fun ck : Dev nD × CN => (reached ER (kcell ck) 0 : sProp 𝕄)), toks_around]
  iintro ⟨HI, ⟨Hat, #HR⟩, Htok⟩
  ihave HK := (BI.bigSep_exists_pi Finset.univ (fun (ck : Dev nD × CN) (κ : ℕ) => (cellInv ER (Rd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · rw [bigSep_sep', bigSep_congr (s := Finset.univ) (fun (c : Dev nD) _ => (posns_eq (F := F) c).symm)]
    isplitl [Hat]; · iexact Hat
    iexact Htok

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What a list of debts owes at a cell is counted by its entries there. -/
theorem tal_count (n : ℕ) (g : GSem nD τ sig) (l : List (GSem nD τ sig × ℕ)) (h : ∀ e ∈ l, e.1 = g → e.2 = n) :
    tal l g () = n * (l.map Prod.fst).count g := by
  rw [tal_apply]
  induction l with
  | nil => rfl
  | cons e l ih =>
    rw [List.map_cons, List.sum_cons, ih (fun e' he' => h e' (List.mem_cons_of_mem _ he')), List.map_cons, List.count_cons]
    by_cases hg : e.1 = g
    · rw [if_pos hg, h e List.mem_cons_self hg, if_pos (beq_iff_eq.mpr hg), Nat.mul_add, Nat.mul_one, Nat.add_comm]
    · rw [if_neg hg, if_neg (fun h' => hg (beq_iff_eq.mp h')), Nat.zero_add, Nat.add_zero]

theorem debts_bar (d c : Dev nD) : ∀ e ∈ debts d, e.1 = barCell c → e.2 = 1 := by
  intro e he h
  simp only [debts, List.mem_cons, List.not_mem_nil, or_false] at he
  rcases he with rfl | rfl | rfl | rfl | rfl | rfl | rfl | rfl | rfl | rfl
  all_goals first | rfl | exact absurd (congrArg Prod.snd h) (x_ne_bar _)
theorem debts_x (d c : Dev nD) (p : Fin 2) (x : Fin 4) : ∀ e ∈ debts d, e.1 = xcell c p 1 x → e.2 = N := by
  intro e he h
  simp only [debts, List.mem_cons, List.not_mem_nil, or_false] at he
  rcases he with rfl | rfl | rfl | rfl | rfl | rfl | rfl | rfl | rfl | rfl
  all_goals first | rfl | exact absurd (congrArg Prod.snd h).symm (x_ne_bar _)

/-- Two devices owe each barrier cell, -/
theorem count_bar : ∀ c : Dev nD, ∑ d : Dev nD, ((debts d).map Prod.fst).count (barCell c) = 2 := by decide +kernel
/-- one device owes each receive cell. -/
theorem count_x : ∀ (c : Dev nD) (p : Fin 2) (x : Fin 4), ∑ d : Dev nD, ((debts d).map Prod.fst).count (xcell c p 1 x) = 1 := by decide +kernel

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same,
    Finset.sum_congr rfl fun d _ => show O₀ d (barCell c) () = 1 * _ from tal_count 1 _ _ (debts_bar d c), ← Finset.mul_sum, count_bar, Nat.one_mul]
theorem launch_x (c : Dev nD) (p : Fin 2) (x : Fin 4) :
    tallyOn (xcell c p 1 x) (launchCredit (Pipeline.owing O₀) 0 (xcell c p 1 x)) = (tallyAt (xcell c p 1 x) () N : CellTallies nD τ sig Unit) := by
  unfold tallyAt; refine congrArg _ (Finsupp.ext fun u => ?_); cases u
  rw [Pipeline.launchCredit_owing, Finsupp.single_eq_same,
    Finset.sum_congr rfl fun d _ => show O₀ d (xcell c p 1 x) () = N * _ from tal_count N _ _ (debts_x d c p x), ← Finset.mul_sum, count_x, Nat.mul_one]

/-- The semaphores a device has credit on. -/
def credSems : List (SemLoc sig) := [.reg barS, .dma (xsem 0 1 0), .dma (xsem 0 1 1), .dma (xsem 0 1 2), .dma (xsem 0 1 3), .dma (xsem 1 1 0), .dma (xsem 1 1 1), .dma (xsem 1 1 2), .dma (xsem 1 1 3)]
theorem credSems_nodup : credSems.Nodup := by decide

omit [FloatOps F] in
/-- The launch credit of a device. -/
theorem creds (c : Dev nD) : (Pipeline.launchCred O₀ c : sProp 𝕄) ⊢ credits c := by
  have h : (Pipeline.launchCred O₀ c : sProp 𝕄)
      ⊢ bigSepL credSems fun sm => cred (tallyOn ((c : Thread nD τ), sm) (launchCredit (Pipeline.owing O₀) 0 ((c : Thread nD τ), sm))) := by
    unfold Pipeline.launchCred
    rw [← bigSep_eq_bigSepL_of_eq credSems rfl credSems_nodup]
    exact bigSep_subset (Finset.subset_univ _)
  refine h.trans (Entails.of_eq ?_)
  unfold credits
  rw [← launch_bar c, ← launch_x c 0 0, ← launch_x c 0 1, ← launch_x c 0 2, ← launch_x c 0 3, ← launch_x c 1 0, ← launch_x c 1 1, ← launch_x c 1 2, ← launch_x c 1 3]
  rfl

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
theorem bufs_in (c : Dev nD) : (Pipeline.scopedRest (Ix := Unit) (Name := ℕ) (U := UU) (Lvl := ℕ) (Val := Elt F) cfg0.spec c : sProp 𝕄) ⊢ bufs (F := F) c := by
  refine (Entails.of_eq (scopedRest0_eq c)).trans ?_
  unfold bufs
  iintro ⟨H0, H1, H2, H3, H4⟩
  ihave H1 := (cut (F := F) c (sM 0) (sM_set 0)) $$ H1
  ihave H2 := (cut (F := F) c (rM 0) (rM_set 0)) $$ H2
  ihave H3 := (cut (F := F) c (sM 1) (sM_set 1)) $$ H3
  ihave H4 := (cut (F := F) c (rM 1) (rM_set 1)) $$ H4
  icases H1 with ⟨A0, A1, A2, A3⟩
  icases H2 with ⟨B0, B1, B2, B3⟩
  icases H3 with ⟨C0, C1, C2, C3⟩
  icases H4 with ⟨D0, D1, D2, D3⟩
  isplitl [H0]; · iexact H0
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [C0]; · iexact C0
  isplitl [C1]; · iexact C1
  isplitl [C2]; · iexact C2
  isplitl [C3]; · iexact C3
  isplitl [D0]; · iexact D0
  isplitl [D1]; · iexact D1
  isplitl [D2]; · iexact D2
  iexact D3

omit [FloatOps F] in
theorem bufs_out (c : Dev nD) : bufs (F := F) c ⊢ (Pipeline.scopedRest (Ix := Unit) (Name := ℕ) (U := UU) (Lvl := ℕ) (Val := Elt F) cfg0.spec c : sProp 𝕄) := by
  rw [scopedRest0_eq]
  unfold bufs
  iintro ⟨H0, A0, A1, A2, A3, B0, B1, B2, B3, C0, C1, C2, C3, D0, D1, D2, D3⟩
  isplitl [H0]; · iexact H0
  isplitl [A0 A1 A2 A3]
  · iapply (uncut (F := F) c (sM 0) (sM_set 0))
    isplitl [A0]; · iexact A0
    isplitl [A1]; · iexact A1
    isplitl [A2] <;> iassumption
  isplitl [B0 B1 B2 B3]
  · iapply (uncut (F := F) c (rM 0) (rM_set 0))
    isplitl [B0]; · iexact B0
    isplitl [B1]; · iexact B1
    isplitl [B2] <;> iassumption
  isplitl [C0 C1 C2 C3]
  · iapply (uncut (F := F) c (sM 1) (sM_set 1))
    isplitl [C0]; · iexact C0
    isplitl [C1]; · iexact C1
    isplitl [C2] <;> iassumption
  iapply (uncut (F := F) c (rM 1) (rM_set 1))
  isplitl [D0]; · iexact D0
  isplitl [D1]; · iexact D1
  isplitl [D2] <;> iassumption

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (bufs_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁
  iintro ⟨HB, HZ, Hr⟩
  isplitl [HB]; · iexact HB
  isplitl [HZ]; · iexact HZ
  iapply (bufs_out (F := F) c); iexact Hr

/-- At the launch's own waits everything owed lies above. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_tal c (.dma q) 0 (debts c) ?_ ?_
    · show lvs (.dma q) ≤ 0
      dsimp only [lvs]; rw [if_neg (by omega)]
    · intro e he
      simp only [debts, List.mem_cons, List.not_mem_nil, or_false] at he
      rcases he with rfl | rfl | rfl | rfl | rfl | rfl | rfl | rfl | rfl | rfl
      · exact ⟨L_tc _ _, Nat.one_pos⟩
      · exact ⟨L_tc _ _, Nat.one_pos⟩
      all_goals exact ⟨L_tc _ _, by rw [lv_x]; decide⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program terminates, and every final state has each device's result array at the computed contents,
    the arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_t (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdealX

end
-- ==== Proof.KIVal.lean ====
/-
# The value of the idealized kernel: what every device's result holds, and why it is the reference's
-/
module

public import proofs.«01_k».proof.Proof.KIRun
public import proofs.«01_k».proof.Proof.Gen.ReferenceIdeal.Run
public import proofs.«01_k».proof.Proof.Gen.Pre_finite_KernelIdeal
public import Idealize.ShloMosaic.Lib.Pointwise
public import Idealize.ShloMosaic.Lib.ValueIdx
public import Idealize.ShloMosaic.Lib.Pipeline.ValueKit

@[expose] public section

set_option maxRecDepth 16384

noncomputable section

namespace Cert.KernelIdealX

open Cert.KernelIdeal Cert.KernelIdeal.Gen
open Idealize.ShloMosaic Idealize.ShloMosaic.TcCoe Idealize.SL.Sem

/-! ## The vector code at an element -/

/-- The rounded `W` is `W` over the reals. -/
theorem pay1_apply (w : Vec Ideal S256x256 .f32) (k j : Fin 256) : k0_pay1 (F := Ideal) w (ix2 k j) = w (ix2 k j) := by
  pointwise [k0_pay1]

/-- One chunk of a device's product. -/
theorem pay2_apply (u : Vec Ideal S128x256 .f32) (w : Vec Ideal S256x256 .bf16) (i : Fin 128) (j : Fin 256) :
    k0_pay2 (F := Ideal) u w (ix4 0 0 i j) = ∑ k : Fin 256, u (ix2 i k) * w (ix2 k j) := by
  pointwise [k0_pay2]

/-- The first exchange adds the chunk that came to the device's own, -/
theorem pay8_apply (a b : Vec Ideal S1x1x128x256 .bf16) (i : Fin 128) (j : Fin 256) :
    k0_pay8 (F := Ideal) a b (ix4 0 0 i j) = a (ix4 0 0 i j) + b (ix4 0 0 i j) := by
  pointwise [k0_pay8]

/-- and so does the second. -/
theorem pay12_apply (a b : Vec Ideal S1x1x128x256 .bf16) (i : Fin 128) (j : Fin 256) :
    k0_pay12 (F := Ideal) a b (ix2 i j) = a (ix4 0 0 i j) + b (ix4 0 0 i j) := by
  pointwise [k0_pay12]

/-! ## The reference at an element -/

/-- The reference at an element: the four blocks summed, then the product. -/
theorem ref_apply (t : FVec Ideal Cert.ReferenceIdeal.S2048x256 .f32) (w : FVec Ideal Cert.ReferenceIdeal.S256x256 .f32) (r : Fin 512) (n : Fin 256) :
    Host.dotGeneral (F := Ideal) Cert.ReferenceIdeal.dot_S512x256_S256x256_S512x256_1_0_0_1_n_n none (Host.reduceAdd (shapeCast _ t Cert.ReferenceIdeal.Gen.shapeCasts_S2048x256_S4x512x256) (constant Cert.ReferenceIdeal.S_ .f32 0x00000000#32) Cert.ReferenceIdeal.Gen.reducesTo_S4x512x256_S512x256_d0 Cert.ReferenceIdeal.Gen.h_S_) w (ix2 r n)
      = ∑ k : Fin 256, (∑ d : Fin 4, t (ix2 ⟨d.val * 512 + r.val, by omega⟩ k)) * w (ix2 k n) := by
  pointwise

/-! ## The precondition at an element -/

/-- The word of plus infinity. -/
theorem bits_top : Ideal.ofBits .f32 0x7F800000#32 = (⊤ : EReal) := by simp [Ideal.ofBits, Ideal.ieee]
/-- The word of minus infinity. -/
theorem bits_bot : Ideal.ofBits .f32 0xFF800000#32 = (⊥ : EReal) := by simp [Ideal.ofBits, Ideal.ieee]

/-- What lies between the infinities is a real number. -/
theorem real_of_between {a : EReal} (h : IntOp.andi (BitVec.ofBool (decide (Ideal.ofBits FTy.f32 4286578688#32 < a)))
    (BitVec.ofBool (decide (a < Ideal.ofBits FTy.f32 2139095040#32))) = 1#1) : ∃ b : ℝ, a = (b : EReal) := by
  rw [show Ideal.ofBits FTy.f32 4286578688#32 = (⊥ : EReal) from bits_bot, show Ideal.ofBits FTy.f32 2139095040#32 = (⊤ : EReal) from bits_top] at h
  have h1 : a ≠ ⊥ := by rintro rfl; revert h; simp [IntOp.andi]
  have h2 : a ≠ ⊤ := by rintro rfl; revert h; simp [IntOp.andi]
  exact ⟨a.toReal, (EReal.coe_toReal h2 h1).symm⟩

/-- The precondition makes every entry of the device's block of `t` a real number, -/
theorem fin_t (t : FVec Ideal S512x256 .f32) (w : FVec Ideal S256x256 .f32)
    (h : (Cert.Pre_finite_KernelIdeal.fn (F := Ideal) t w).1 = fun _ => 1#1) (i : S512x256.Idx) : ∃ a : ℝ, t i = (a : EReal) := by
  have h' := congrFun h i
  pointwise [Cert.Pre_finite_KernelIdeal.fn] at h'
  exact real_of_between h'

/-- and every entry of `W`. -/
theorem fin_w (t : FVec Ideal S512x256 .f32) (w : FVec Ideal S256x256 .f32)
    (h : (Cert.Pre_finite_KernelIdeal.fn (F := Ideal) t w).2 = fun _ => 1#1) (i : S256x256.Idx) : ∃ a : ℝ, w i = (a : EReal) := by
  have h' := congrFun h i
  pointwise [Cert.Pre_finite_KernelIdeal.fn] at h'
  exact real_of_between h'

/-! ## The staged arguments, the rows of a chunk, the rows of the result -/

/-- The number of chunk `x`'s row `i` in the block. -/
def rowOf (x : Fin 4) (i : Fin 128) : Fin 512 := ⟨128 * x.val + i.val, by omega⟩

/-- Row `i` of chunk `x` is that row of the block. -/
theorem rr_emb (x : Fin 4) (i : Fin 128) (k : Fin 256) : (rr x).emb (ix2 i k : S128x256.Idx) = (ix2 (rowOf x i) k : S512x256.Idx) := by
  have e0 : roffs x 0 = 128 * x.val := by revert x; decide
  have e1 : roffs x 1 = 0 := by revert x; decide
  funext a
  apply Fin.ext
  match a with
  | 0 => show roffs x 0 + 1 * i.val = 128 * x.val + i.val; omega
  | 1 => show roffs x 1 + 1 * k.val = k.val; omega

/-- A block with chunk `y` replaced, at a row of chunk `x`. -/
theorem putRow_apply (x y : Fin 4) (f : (cc0_stg2_0 : Ref sig .tc).ty.Contents (Elt Ideal)) (w : Vec Ideal S128x256 .f32) (i : Fin 128) (k : Fin 256) :
    putRow (F := Ideal) y f w (ix2 (rowOf x i) k : S512x256.Idx) = if x = y then w (ix2 i k) else f (ix2 (rowOf x i) k : S512x256.Idx) := by
  unfold putRow
  split
  · next h =>
    subst h
    have := (oM.access (rr x) : View sig .tc _ _ _).write_emb_of_mem (Val := Elt Ideal) f w (Finset.mem_univ (ix2 i k : S128x256.Idx))
    rw [← rr_emb]
    exact this
  · next h =>
    refine View.write_of_not_mem (v := (oM.access (rr y) : View sig .tc _ _ _)) f w _ ?_
    rw [mem_row]
    intro h'
    apply h
    apply Fin.ext
    rw [← h']
    show x.val = (128 * x.val + i.val) / 128
    omega

/-- A block put together of four chunks, at a row of chunk `x`. -/
theorem outW_apply (f : (cc0_stg2_0 : Ref sig .tc).ty.Contents (Elt Ideal)) (w : Fin 4 → Vec Ideal S128x256 .f32) (x : Fin 4) (i : Fin 128) (k : Fin 256) :
    outW (F := Ideal) f (w 0) (w 2) (w 1) (w 3) (ix2 (rowOf x i) k : S512x256.Idx) = w x (ix2 i k) := by
  unfold outW
  rw [putRow_apply, putRow_apply, putRow_apply, putRow_apply]
  fin_cases x <;> rfl

/-! ## The four devices' products, summed in the kernel's order -/

/-- A device, its two partners and their partner are all four devices. -/
theorem four (c : Dev nD) (x : Fin 4) : [c, pr 0 x c, pr 1 x c, pr 0 x (pr 1 x c)].Perm [0, 1, 2, 3] := by revert c x; decide

/-- The two exchanges add up the four devices. -/
theorem sum_devs (c : Dev nD) (x : Fin 4) (g : Dev nD → EReal) :
    (g c + g (pr 0 x c)) + (g (pr 1 x c) + g (pr 0 x (pr 1 x c))) = ∑ d : Fin 4, g d := by
  have h := ((four c x).map g).sum_eq
  simp only [List.map_cons, List.map_nil, List.sum_cons, List.sum_nil, add_zero] at h
  rw [Fin.sum_univ_four, add_assoc, h, add_assoc, add_assoc]

/-- A sum of four real numbers times a real number. -/
theorem distrib4 (T : Fin 4 → EReal) (w : EReal) (hT : ∀ d, ∃ a : ℝ, T d = a) (hw : ∃ a : ℝ, w = a) :
    ∑ d : Fin 4, T d * w = (∑ d : Fin 4, T d) * w := by
  obtain ⟨b, rfl⟩ := hw
  choose a ha using hT
  simp only [ha, Fin.sum_univ_four, ← EReal.coe_add, ← EReal.coe_mul]
  congr 1
  ring

variable (m : (ℓ : Loc nD τ sig) → Buf (Elt Ideal) ℓ) (ρ : Dev nD → PrngReg)

/-- Device `d`'s block of `t`, its `W`, and its result, as arrays of extended reals. -/
abbrev tArr (d : Dev nD) : S512x256.Idx → EReal := m ((d : Thread nD τ).loc main_arg0)
abbrev wArr (d : Dev nD) : S256x256.Idx → EReal := m ((d : Thread nD τ).loc main_arg1)
abbrev outArr (d : Dev nD) : S512x256.Idx → EReal := outAt (F := Ideal) m ρ d

/-- The staged block of `t` is the device's array; -/
theorem tstg_eq (c : Dev nD) : tstg (F := Ideal) m ρ c = tArr m c := by
  funext i
  unfold tstg
  show m ((c : Thread nD τ).loc main_arg0) (((cfg0.win 0).blk (0 : Fin 1)).view.emb i) = _
  congr 1
  funext a
  apply Fin.ext
  have h : ∀ a, win0_0.index (0 : Fin 1) a = 0 := by decide
  fin_cases a <;> blk_simp <;> simp [h] <;> rfl

/-- the staged `W` likewise. -/
theorem wstg_eq (c : Dev nD) : wstg (F := Ideal) m ρ c = wArr m c := by
  funext i
  unfold wstg
  show m ((c : Thread nD τ).loc main_arg1) (((cfg0.win 1).blk (0 : Fin 1)).view.emb i) = _
  congr 1
  funext a
  apply Fin.ext
  have h : ∀ a, win0_1.index (0 : Fin 1) a = 0 := by decide
  fin_cases a <;> blk_simp <;> simp [h] <;> rfl

/-- A chunk of the staged block at an element. -/
theorem trow_apply (c : Dev nD) (x : Fin 4) (i : Fin 128) (k : Fin 256) :
    trow (F := Ideal) m ρ c x (ix2 i k) = tArr m c (ix2 (rowOf x i) k) := by
  rw [← rr_emb]
  unfold trow
  rw [tstg_eq]
  rfl

/-- Chunk `x` of a device's own product at an element. -/
theorem A1_apply (d : Dev nD) (x : Fin 4) (i : Fin 128) (n : Fin 256) :
    A1 (F := Ideal) m ρ d x (ix4 0 0 i n) = ∑ k : Fin 256, tArr m d (ix2 (rowOf x i) k) * wArr m d (ix2 k n) := by
  unfold A1 wbv
  rw [pay2_apply]
  refine Finset.sum_congr rfl fun k _ => ?_
  rw [pay1_apply, trow_apply, wstg_eq]

/-- The result of every device, at an element. -/
theorem out_apply (c : Dev nD) (x : Fin 4) (i : Fin 128) (n : Fin 256) :
    outArr m ρ c (ix2 (rowOf x i) n) = ∑ d : Fin 4, ∑ k : Fin 256, tArr m d (ix2 (rowOf x i) k) * wArr m d (ix2 k n) := by
  have h : outArr m ρ c (ix2 (rowOf x i) n) = A3 (F := Ideal) m ρ c x (ix2 i n) := outW_apply _ (A3 (F := Ideal) m ρ c) x i n
  rw [h]
  unfold A3 A2
  rw [pay12_apply, pay8_apply, pay8_apply]
  refine (sum_devs c x (fun d => A1 (F := Ideal) m ρ d x (ix4 0 0 i n))).trans ?_
  exact Finset.sum_congr rfl fun d _ => A1_apply m ρ d x i n

/-- The result array of the run is what the body leaves. -/
theorem finalA_out (c : Dev nD) : finalA (F := Ideal) m ρ c (2 : Fin 3) = outAt (F := Ideal) m ρ c := by
  unfold finalA
  refine (dats (F := Ideal) m ρ 0 c).arrAt_eq_of_after_last (2 : Fin 3) t0_0 (by decide +kernel) _ fun j => ?_
  blk_simp
  rfl

/-! ## The equation of the claim -/

/-- The reference's result from the whole `t` and `W`. -/
abbrev refOut (t : FVec Ideal Cert.ReferenceIdeal.S2048x256 .f32) (w : FVec Ideal Cert.ReferenceIdeal.S256x256 .f32) : FVec Ideal Cert.ReferenceIdeal.S512x256 .f32 :=
  Host.dotGeneral (F := Ideal) Cert.ReferenceIdeal.dot_S512x256_S256x256_S512x256_1_0_0_1_n_n none (Host.reduceAdd (shapeCast _ t Cert.ReferenceIdeal.Gen.shapeCasts_S2048x256_S4x512x256) (constant Cert.ReferenceIdeal.S_ .f32 0x00000000#32) Cert.ReferenceIdeal.Gen.reducesTo_S4x512x256_S512x256_d0 Cert.ReferenceIdeal.Gen.h_S_) w

/-- Where every device holds its block of `t` and a copy of `W`, all finite, every device's result is the reference's. -/
theorem out_eq (t : FVec Ideal Cert.ReferenceIdeal.S2048x256 .f32) (w : FVec Ideal Cert.ReferenceIdeal.S256x256 .f32)
    (ht : ∀ d : Dev nD, tArr m d = Layout.block ⟨2, ![512, 256]⟩ ⟨2, ![2048, 256]⟩ 0 4 d t) (hw : ∀ d : Dev nD, wArr m d = w)
    (hft : ∀ (d : Dev nD) i, ∃ a : ℝ, tArr m d i = (a : EReal)) (hfw : ∀ (d : Dev nD) i, ∃ a : ℝ, wArr m d i = (a : EReal)) (c : Dev nD) :
    outArr m ρ c = refOut t w := by
  funext j
  obtain ⟨r, n, rfl⟩ : ∃ (r : Fin 512) (n : Fin 256), j = ix2 r n := ⟨j 0, j 1, eq_ix2 j⟩
  obtain ⟨x, i, rfl⟩ : ∃ (x : Fin 4) (i : Fin 128), r = rowOf x i :=
    ⟨⟨r.val / 128, by omega⟩, ⟨r.val % 128, by omega⟩, Fin.ext (by show r.val = 128 * (r.val / 128) + r.val % 128; omega)⟩
  rw [out_apply]
  refine Eq.trans ?_ (ref_apply t w (rowOf x i) n).symm
  rw [Finset.sum_comm]
  refine Finset.sum_congr rfl fun k _ => ?_
  have e (d : Fin 4) : tArr m d (ix2 (rowOf x i) k) = t (ix2 ⟨d.val * 512 + (rowOf x i).val, by omega⟩ k) := by
    rw [ht d, Layout.block_apply]
    congr 1
    funext a
    apply Fin.ext
    rw [Layout.Tiles.idx_val]
    match a with
    | 0 => rfl
    | 1 => rfl
  simp only [hw, ← e]
  exact distrib4 _ _ (fun d => hft d _) (by rw [← hw 0]; exact hfw 0 _)

end Cert.KernelIdealX

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.KRun
public import proofs.«01_k».proof.Proof.KIRun
public import proofs.«01_k».proof.Proof.KIVal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Idealize.ShloMosaic.TcCoe

/-- The kernel, at any float values: it ends, its arguments unchanged and every counter at zero. -/
theorem kernel_frame {F : FTy → Type} [FloatOps F] (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  (θ_run _ _ _).mono (fun _ h => ⟨fun c => ⟨(h.1 c (0 : Fin 3)).trans (Cert.KernelX.finalA_t m g c), (h.1 c (1 : Fin 3)).trans (Cert.KernelX.finalA_w m g c)⟩, h.2⟩)
    (Cert.KernelX.run_main m g)

/-- The same of the idealized kernel, with what its result arrays end holding. -/
theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_v1) = Cert.KernelIdealX.outArr m g c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c (2 : Fin 3)).trans (Cert.KernelIdealX.finalA_out m g c),
      (h.1 c (0 : Fin 3)).trans (Cert.KernelIdealX.finalA_t m g c), (h.1 c (1 : Fin 3)).trans (Cert.KernelIdealX.finalA_w m g c)⟩, h.2⟩)
    (Cert.KernelIdealX.run_main m g)

theorem ideal_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (ideal_run m g)

/-- The reference has no semaphore at all. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h c).2, sem_eq_zero_of_no_sems (by decide) _⟩) (Cert.ReferenceIdeal.Value.run m g)

theorem value : Cert.algebraic_KernelIdeal_ReferenceIdeal_pre_finite_KernelIdeal := fun m g m' g' hpre hag =>
  ⟨Cert.KernelIdealX.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans (Cert.KernelIdealX.out_eq m g _ _ (fun d => (hag d).1) (fun d => (hag d).2)
      (fun d => Cert.KernelIdealX.fin_t _ _ (hpre d).1) (fun d => Cert.KernelIdealX.fin_w _ _ (hpre d).2) c), (h.1 c).2⟩) (ideal_run m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  fun m g _ => kernel_frame m g, fun m g _ => ideal_frame m g, fun m g _ => ideal_frame m g, fun m g _ => ref_frame m g, fun m g _ => ref_frame m g, trivial, value⟩

end Cert.Proof

end
